-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_within_clip [hKernelIdeal : Cert.KernelIdeal.Facts] [hReferenceIdeal : Cert.ReferenceIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32, 1024]⟩ : Shape).Idx, (Layout.block ⟨2, ![32, 1024]⟩ ⟨2, ![1024, 1024]⟩ 0 32 c ((Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![32, 1024]⟩ : Shape).Idx → _) i = 1#1 → r.2.mem ((c.tc : Thread Cert.KernelIdeal.nD Cert.KernelIdeal.τ).loc Cert.KernelIdeal.main_v2) i = (Layout.block ⟨2, ![32, 1024]⟩ ⟨2, ![1024, 1024]⟩ 0 32 c v0 : (⟨2, ![32, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_within_clip (hKernelIdeal := hKernelIdeal) (hReferenceIdeal := hReferenceIdeal) (hOn_within_clip := hOn_within_clip)
    ∧ algebraic_KernelIdeal_SiluIdeal (hKernelIdeal := hKernelIdeal) (hSiluIdeal := hSiluIdeal)
-- ==== On_within_clip.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x42700000#32
  let main_v2 : FVec F S1024x1024 .f32 := broadcastInDim S1024x1024 ![] bcast_S_S1024x1024 main_cst
  let main_v3 : IVec S1024x1024 1 := cmpf .ole main_v1 main_v2
  main_v3
-- ==== Kernel.lean ====
abbrev S1024x32 : Shape := ⟨2, ![1024, 32]⟩
abbrev S1024x1024 : Shape := ⟨2, ![1024, 1024]⟩
abbrev S4x8x32x32 : Shape := ⟨4, ![4, 8, 32, 32]⟩
abbrev S32x1024 : Shape := ⟨2, ![32, 1024]⟩
abbrev S8 : Shape := ⟨1, ![8]⟩
abbrev S4 : Shape := ⟨1, ![4]⟩
abbrev S_ : Shape := ⟨0, ![]⟩
abbrev S1 : Shape := ⟨1, ![1]⟩
abbrev S4x1x32x32 : Shape := ⟨4, ![4, 1, 32, 32]⟩
abbrev S4x32x32 : Shape := ⟨3, ![4, 32, 32]⟩
abbrev S1x8x32x32 : Shape := ⟨4, ![1, 8, 32, 32]⟩
abbrev S8x32x32 : Shape := ⟨3, ![8, 32, 32]⟩
abbrev S32x4x8x32 : Shape := ⟨4, ![32, 4, 8, 32]⟩

abbrev nBuf : Space → Nat
  | .hbm => 4
  | .vmem => 5
  | .smem => 0
  | _ => 0

abbrev bufTy : (tb : Table) → Fin (tcTables nBuf tb) → BufTy
  | .hbm, ⟨0, _⟩ => ⟨S1024x32, .f32⟩
  | .hbm, ⟨1, _⟩ => ⟨S1024x1024, .f32⟩
  | .hbm, ⟨2, _⟩ => ⟨S4x8x32x32, .f32⟩
  | .hbm, ⟨3, _⟩ => ⟨S32x1024, .f32⟩
  | .local _ .vmem, ⟨0, _⟩ => ⟨S4x8x32x32, .f32⟩
  | .local _ .vmem, ⟨1, _⟩ => ⟨S32x1024, .f32⟩
  | .local _ .vmem, ⟨2, _⟩ => ⟨S4x8x32x32, .f32⟩
  | .local _ .vmem, ⟨3, _⟩ => ⟨S4x8x32x32, .f32⟩
  | .local _ .vmem, ⟨4, _⟩ => ⟨S1024x1024, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_1 : BitVec 32 := 8#32
  let v6 : BitVec 32 := Scalar.muli v3 c8_i32_1
  let c8_i32_0 : BitVec 32 := 8#32
  let v4 : BitVec 32 := Scalar.remsi v2 c8_i32_0
  let c1_i32_2 : BitVec 32 := 1#32
  let v7 : BitVec 32 := Scalar.addi v4 c1_i32_2
  let c8_i32_3 : BitVec 32 := 8#32
  let v8 : BitVec 32 := Scalar.remsi v7 c8_i32_3
  let v9 : BitVec 32 := Scalar.addi v6 v8
  let c1_i32_5 : BitVec 32 := 1#32
  let v10 : BitVec 32 := Scalar.muli v9 c1_i32_5
  let v11 : BitVec 32 := Scalar.addi c0_i32 v10
  v11.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v12 : BitVec 32 := Scalar.muli v3 c8_i32_6
  let c8_i32_0 : BitVec 32 := 8#32
  let v4 : BitVec 32 := Scalar.remsi v2 c8_i32_0
  let c2_i32 : BitVec 32 := 2#32
  let v13 : BitVec 32 := Scalar.addi v4 c2_i32
  let c8_i32_7 : BitVec 32 := 8#32
  let v14 : BitVec 32 := Scalar.remsi v13 c8_i32_7
  let v15 : BitVec 32 := Scalar.addi v12 v14
  let c1_i32_9 : BitVec 32 := 1#32
  let v16 : BitVec 32 := Scalar.muli v15 c1_i32_9
  let v17 : BitVec 32 := Scalar.addi c0_i32_10 v16
  v17.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_11 : BitVec 32 := 8#32
  let v18 : BitVec 32 := Scalar.muli v3 c8_i32_11
  let c8_i32_0 : BitVec 32 := 8#32
  let v4 : BitVec 32 := Scalar.remsi v2 c8_i32_0
  let c3_i32 : BitVec 32 := 3#32
  let v19 : BitVec 32 := Scalar.addi v4 c3_i32
  let c8_i32_12 : BitVec 32 := 8#32
  let v20 : BitVec 32 := Scalar.remsi v19 c8_i32_12
  let v21 : BitVec 32 := Scalar.addi v18 v20
  let c1_i32_14 : BitVec 32 := 1#32
  let v22 : BitVec 32 := Scalar.muli v21 c1_i32_14
  let v23 : BitVec 32 := Scalar.addi c0_i32_15 v22
  v23.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_16 : BitVec 32 := 8#32
  let v24 : BitVec 32 := Scalar.muli v3 c8_i32_16
  let c8_i32_0 : BitVec 32 := 8#32
  let v4 : BitVec 32 := Scalar.remsi v2 c8_i32_0
  let c4_i32 : BitVec 32 := 4#32
  let v25 : BitVec 32 := Scalar.addi v4 c4_i32
  let c8_i32_17 : BitVec 32 := 8#32
  let v26 : BitVec 32 := Scalar.remsi v25 c8_i32_17
  let v27 : BitVec 32 := Scalar.addi v24 v26
  let c1_i32_19 : BitVec 32 := 1#32
  let v28 : BitVec 32 := Scalar.muli v27 c1_i32_19
  let v29 : BitVec 32 := Scalar.addi c0_i32_20 v28
  v29.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_21 : BitVec 32 := 8#32
  let v30 : BitVec 32 := Scalar.muli v3 c8_i32_21
  let c8_i32_0 : BitVec 32 := 8#32
  let v4 : BitVec 32 := Scalar.remsi v2 c8_i32_0
  let c5_i32 : BitVec 32 := 5#32
  let v31 : BitVec 32 := Scalar.addi v4 c5_i32
  let c8_i32_22 : BitVec 32 := 8#32
  let v32 : BitVec 32 := Scalar.remsi v31 c8_i32_22
  let v33 : BitVec 32 := Scalar.addi v30 v32
  let c1_i32_24 : BitVec 32 := 1#32
  let v34 : BitVec 32 := Scalar.muli v33 c1_i32_24
  let v35 : BitVec 32 := Scalar.addi c0_i32_25 v34
  v35.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_26 : BitVec 32 := 8#32
  let v36 : BitVec 32 := Scalar.muli v3 c8_i32_26
  let c8_i32_0 : BitVec 32 := 8#32
  let v4 : BitVec 32 := Scalar.remsi v2 c8_i32_0
  let c6_i32 : BitVec 32 := 6#32
  let v37 : BitVec 32 := Scalar.addi v4 c6_i32
  let c8_i32_27 : BitVec 32 := 8#32
  let v38 : BitVec 32 := Scalar.remsi v37 c8_i32_27
  let v39 : BitVec 32 := Scalar.addi v36 v38
  let c1_i32_29 : BitVec 32 := 1#32
  let v40 : BitVec 32 := Scalar.muli v39 c1_i32_29
  let v41 : BitVec 32 := Scalar.addi c0_i32_30 v40
  v41.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_31 : BitVec 32 := 8#32
  let v42 : BitVec 32 := Scalar.muli v3 c8_i32_31
  let c8_i32_0 : BitVec 32 := 8#32
  let v4 : BitVec 32 := Scalar.remsi v2 c8_i32_0
  let c7_i32 : BitVec 32 := 7#32
  let v43 : BitVec 32 := Scalar.addi v4 c7_i32
  let c8_i32_32 : BitVec 32 := 8#32
  let v44 : BitVec 32 := Scalar.remsi v43 c8_i32_32
  let v45 : BitVec 32 := Scalar.addi v42 v44
  let c1_i32_34 : BitVec 32 := 1#32
  let v46 : BitVec 32 := Scalar.muli v45 c1_i32_34
  let v47 : BitVec 32 := Scalar.addi c0_i32_35 v46
  v47.toNat
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_36 : BitVec 32 := 1#32
  let v48 : BitVec 32 := Scalar.addi v3 c1_i32_36
  let c4_i32_37 : BitVec 32 := 4#32
  let v49 : BitVec 32 := Scalar.remsi v48 c4_i32_37
  let c8_i32_38 : BitVec 32 := 8#32
  let v50 : BitVec 32 := Scalar.muli v49 c8_i32_38
  let c8_i32_0 : BitVec 32 := 8#32
  let v4 : BitVec 32 := Scalar.remsi v2 c8_i32_0
  let v51 : BitVec 32 := Scalar.addi v50 v4
  let c1_i32_40 : BitVec 32 := 1#32
  let v52 : BitVec 32 := Scalar.muli v51 c1_i32_40
  let v53 : BitVec 32 := Scalar.addi c0_i32_41 v52
  v53.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_42 : BitVec 32 := 2#32
  let v54 : BitVec 32 := Scalar.addi v3 c2_i32_42
  let c4_i32_43 : BitVec 32 := 4#32
  let v55 : BitVec 32 := Scalar.remsi v54 c4_i32_43
  let c8_i32_44 : BitVec 32 := 8#32
  let v56 : BitVec 32 := Scalar.muli v55 c8_i32_44
  let c8_i32_0 : BitVec 32 := 8#32
  let v4 : BitVec 32 := Scalar.remsi v2 c8_i32_0
  let v57 : BitVec 32 := Scalar.addi v56 v4
  let c1_i32_46 : BitVec 32 := 1#32
  let v58 : BitVec 32 := Scalar.muli v57 c1_i32_46
  let v59 : BitVec 32 := Scalar.addi c0_i32_47 v58
  v59.toNat
def k0_dev10 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_48 : BitVec 32 := 3#32
  let v60 : BitVec 32 := Scalar.addi v3 c3_i32_48
  let c4_i32_49 : BitVec 32 := 4#32
  let v61 : BitVec 32 := Scalar.remsi v60 c4_i32_49
  let c8_i32_50 : BitVec 32 := 8#32
  let v62 : BitVec 32 := Scalar.muli v61 c8_i32_50
  let c8_i32_0 : BitVec 32 := 8#32
  let v4 : BitVec 32 := Scalar.remsi v2 c8_i32_0
  let v63 : BitVec 32 := Scalar.addi v62 v4
  let c1_i32_52 : BitVec 32 := 1#32
  let v64 : BitVec 32 := Scalar.muli v63 c1_i32_52
  let v65 : BitVec 32 := Scalar.addi c0_i32_53 v64
  v65.toNat
def k0_off1 (d0 : Dev nD) : Fin 4 → Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32_62 : BitVec 32 := 0#32
  let c0_i32_63 : BitVec 32 := 0#32
  ![0, v4.toNat, 0, 0]
def k0_off2 (d0 : Dev nD) (c1_i32_54 : BitVec 32) : Fin 4 → Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let v66 : BitVec 32 := Scalar.addi v4 c1_i32_54
  let c8_i32_55 : BitVec 32 := 8#32
  let v67 : BitVec 32 := Scalar.remsi v66 c8_i32_55
  let c0_i32_65 : BitVec 32 := 0#32
  let c0_i32_66 : BitVec 32 := 0#32
  ![0, v67.toNat, 0, 0]
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_56 : BitVec 32 := 8#32
  let v68 : BitVec 32 := Scalar.muli v3 c8_i32_56
  let c8_i32_0 : BitVec 32 := 8#32
  let v4 : BitVec 32 := Scalar.remsi v2 c8_i32_0
  let c1_i32_54 : BitVec 32 := 1#32
  let v66 : BitVec 32 := Scalar.addi v4 c1_i32_54
  let c8_i32_55 : BitVec 32 := 8#32
  let v67 : BitVec 32 := Scalar.remsi v66 c8_i32_55
  let v69 : BitVec 32 := Scalar.addi v68 v67
  let c1_i32_59 : BitVec 32 := 1#32
  let v70 : BitVec 32 := Scalar.muli v69 c1_i32_59
  let v71 : BitVec 32 := Scalar.addi c0_i32_60 v70
  v71.toNat
def k0_dev12 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_69 : BitVec 32 := 8#32
  let v82 : BitVec 32 := Scalar.muli v3 c8_i32_69
  let c8_i32_0 : BitVec 32 := 8#32
  let v4 : BitVec 32 := Scalar.remsi v2 c8_i32_0
  let c2_i32_67 : BitVec 32 := 2#32
  let v80 : BitVec 32 := Scalar.addi v4 c2_i32_67
  let c8_i32_68 : BitVec 32 := 8#32
  let v81 : BitVec 32 := Scalar.remsi v80 c8_i32_68
  let v83 : BitVec 32 := Scalar.addi v82 v81
  let c1_i32_72 : BitVec 32 := 1#32
  let v84 : BitVec 32 := Scalar.muli v83 c1_i32_72
  let v85 : BitVec 32 := Scalar.addi c0_i32_73 v84
  v85.toNat
def k0_dev13 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_82 : BitVec 32 := 8#32
  let v96 : BitVec 32 := Scalar.muli v3 c8_i32_82
  let c8_i32_0 : BitVec 32 := 8#32
  let v4 : BitVec 32 := Scalar.remsi v2 c8_i32_0
  let c3_i32_80 : BitVec 32 := 3#32
  let v94 : BitVec 32 := Scalar.addi v4 c3_i32_80
  let c8_i32_81 : BitVec 32 := 8#32
  let v95 : BitVec 32 := Scalar.remsi v94 c8_i32_81
  let v97 : BitVec 32 := Scalar.addi v96 v95
  let c1_i32_85 : BitVec 32 := 1#32
  let v98 : BitVec 32 := Scalar.muli v97 c1_i32_85
  let v99 : BitVec 32 := Scalar.addi c0_i32_86 v98
  v99.toNat
def k0_dev14 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_95 : BitVec 32 := 8#32
  let v110 : BitVec 32 := Scalar.muli v3 c8_i32_95
  let c8_i32_0 : BitVec 32 := 8#32
  let v4 : BitVec 32 := Scalar.remsi v2 c8_i32_0
  let c4_i32_93 : BitVec 32 := 4#32
  let v108 : BitVec 32 := Scalar.addi v4 c4_i32_93
  let c8_i32_94 : BitVec 32 := 8#32
  let v109 : BitVec 32 := Scalar.remsi v108 c8_i32_94
  let v111 : BitVec 32 := Scalar.addi v110 v109
  let c1_i32_98 : BitVec 32 := 1#32
  let v112 : BitVec 32 := Scalar.muli v111 c1_i32_98
  let v113 : BitVec 32 := Scalar.addi c0_i32_99 v112
  v113.toNat
def k0_dev15 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_108 : BitVec 32 := 8#32
  let v124 : BitVec 32 := Scalar.muli v3 c8_i32_108
  let c8_i32_0 : BitVec 32 := 8#32
  let v4 : BitVec 32 := Scalar.remsi v2 c8_i32_0
  let c5_i32_106 : BitVec 32 := 5#32
  let v122 : BitVec 32 := Scalar.addi v4 c5_i32_106
  let c8_i32_107 : BitVec 32 := 8#32
  let v123 : BitVec 32 := Scalar.remsi v122 c8_i32_107
  let v125 : BitVec 32 := Scalar.addi v124 v123
  let c1_i32_111 : BitVec 32 := 1#32
  let v126 : BitVec 32 := Scalar.muli v125 c1_i32_111
  let v127 : BitVec 32 := Scalar.addi c0_i32_112 v126
  v127.toNat
def k0_dev16 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_121 : BitVec 32 := 8#32
  let v138 : BitVec 32 := Scalar.muli v3 c8_i32_121
  let c8_i32_0 : BitVec 32 := 8#32
  let v4 : BitVec 32 := Scalar.remsi v2 c8_i32_0
  let c6_i32_119 : BitVec 32 := 6#32
  let v136 : BitVec 32 := Scalar.addi v4 c6_i32_119
  let c8_i32_120 : BitVec 32 := 8#32
  let v137 : BitVec 32 := Scalar.remsi v136 c8_i32_120
  let v139 : BitVec 32 := Scalar.addi v138 v137
  let c1_i32_124 : BitVec 32 := 1#32
  let v140 : BitVec 32 := Scalar.muli v139 c1_i32_124
  let v141 : BitVec 32 := Scalar.addi c0_i32_125 v140
  v141.toNat
def k0_dev17 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_134 : BitVec 32 := 8#32
  let v152 : BitVec 32 := Scalar.muli v3 c8_i32_134
  let c8_i32_0 : BitVec 32 := 8#32
  let v4 : BitVec 32 := Scalar.remsi v2 c8_i32_0
  let c7_i32_132 : BitVec 32 := 7#32
  let v150 : BitVec 32 := Scalar.addi v4 c7_i32_132
  let c8_i32_133 : BitVec 32 := 8#32
  let v151 : BitVec 32 := Scalar.remsi v150 c8_i32_133
  let v153 : BitVec 32 := Scalar.addi v152 v151
  let c1_i32_137 : BitVec 32 := 1#32
  let v154 : BitVec 32 := Scalar.muli v153 c1_i32_137
  let v155 : BitVec 32 := Scalar.addi c0_i32_138 v154
  v155.toNat
def k0_off3 (d0 : Dev nD) : Fin 4 → Nat :=
  let c0 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let v164 : Index := Scalar.indexCast v4
  let c0_145 : Index := 0#32
  let c0_146 : Index := 0#32
  ![0, v164.toNat, 0, 0]
def k0_off4 (d0 : Dev nD) (c1_i32_151 : BitVec 32) : Fin 4 → Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c8_i32_150 : BitVec 32 := 8#32
  let v171 : BitVec 32 := Scalar.addi v4 c8_i32_150
  let v172 : BitVec 32 := Scalar.subi v171 c1_i32_151
  let c8_i32_152 : BitVec 32 := 8#32
  let v173 : BitVec 32 := Scalar.remsi v172 c8_i32_152
  let c0_i32_159 : BitVec 32 := 0#32
  let c0_i32_160 : BitVec 32 := 0#32
  ![0, v173.toNat, 0, 0]
def k0_off5 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_255 : BitVec 32 := 0#32
  let c0_i32_256 : BitVec 32 := 0#32
  let c0_i32_257 : BitVec 32 := 0#32
  ![v3.toNat, 0, 0, 0]
def k0_off6 (d0 : Dev nD) (c1_i32_248 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v248 : BitVec 32 := Scalar.addi v3 c1_i32_248
  let c4_i32_249 : BitVec 32 := 4#32
  let v249 : BitVec 32 := Scalar.remsi v248 c4_i32_249
  let c0_i32_258 : BitVec 32 := 0#32
  let c0_i32_259 : BitVec 32 := 0#32
  let c0_i32_260 : BitVec 32 := 0#32
  ![v249.toNat, 0, 0, 0]
def k0_dev18 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_248 : BitVec 32 := 1#32
  let v248 : BitVec 32 := Scalar.addi v3 c1_i32_248
  let c4_i32_249 : BitVec 32 := 4#32
  let v249 : BitVec 32 := Scalar.remsi v248 c4_i32_249
  let c8_i32_250 : BitVec 32 := 8#32
  let v250 : BitVec 32 := Scalar.muli v249 c8_i32_250
  let c8_i32_0 : BitVec 32 := 8#32
  let v4 : BitVec 32 := Scalar.remsi v2 c8_i32_0
  let v251 : BitVec 32 := Scalar.addi v250 v4
  let c1_i32_253 : BitVec 32 := 1#32
  let v252 : BitVec 32 := Scalar.muli v251 c1_i32_253
  let v253 : BitVec 32 := Scalar.addi c0_i32_254 v252
  v253.toNat
def k0_dev19 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_261 : BitVec 32 := 2#32
  let v262 : BitVec 32 := Scalar.addi v3 c2_i32_261
  let c4_i32_262 : BitVec 32 := 4#32
  let v263 : BitVec 32 := Scalar.remsi v262 c4_i32_262
  let c8_i32_263 : BitVec 32 := 8#32
  let v264 : BitVec 32 := Scalar.muli v263 c8_i32_263
  let c8_i32_0 : BitVec 32 := 8#32
  let v4 : BitVec 32 := Scalar.remsi v2 c8_i32_0
  let v265 : BitVec 32 := Scalar.addi v264 v4
  let c1_i32_266 : BitVec 32 := 1#32
  let v266 : BitVec 32 := Scalar.muli v265 c1_i32_266
  let v267 : BitVec 32 := Scalar.addi c0_i32_267 v266
  v267.toNat
def k0_dev20 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_274 : BitVec 32 := 3#32
  let v276 : BitVec 32 := Scalar.addi v3 c3_i32_274
  let c4_i32_275 : BitVec 32 := 4#32
  let v277 : BitVec 32 := Scalar.remsi v276 c4_i32_275
  let c8_i32_276 : BitVec 32 := 8#32
  let v278 : BitVec 32 := Scalar.muli v277 c8_i32_276
  let c8_i32_0 : BitVec 32 := 8#32
  let v4 : BitVec 32 := Scalar.remsi v2 c8_i32_0
  let v279 : BitVec 32 := Scalar.addi v278 v4
  let c1_i32_279 : BitVec 32 := 1#32
  let v280 : BitVec 32 := Scalar.muli v279 c1_i32_279
  let v281 : BitVec 32 := Scalar.addi c0_i32_280 v280
  v281.toNat
def k0_off7 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v290 : Index := Scalar.indexCast v3
  let c0_287 : Index := 0#32
  let c0_288 : Index := 0#32
  let c0_289 : Index := 0#32
  ![v290.toNat, 0, 0, 0]
def k0_off8 (d0 : Dev nD) (c1_i32_294 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_293 : BitVec 32 := 4#32
  let v297 : BitVec 32 := Scalar.addi v3 c4_i32_293
  let v298 : BitVec 32 := Scalar.subi v297 c1_i32_294
  let c4_i32_295 : BitVec 32 := 4#32
  let v299 : BitVec 32 := Scalar.remsi v298 c4_i32_295
  let c0_i32_301 : BitVec 32 := 0#32
  let c0_i32_302 : BitVec 32 := 0#32
  let c0_i32_303 : BitVec 32 := 0#32
  ![v299.toNat, 0, 0, 0]
abbrev stage0_0 : Fin 1 → Memref sig .tc .vmem S4x8x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Protocol.lean ====
/-
The protocol of the two-stage exchange: devices on a 4-by-8 grid (device c = 8·c1 + c2), the cells each of
them waits on and pays into, what every landing delivers, and what each device owes when it starts.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.StableHlo
public import Idealize.ShloMosaic.Lib.Tactic

@[expose] public section

noncomputable section

namespace Cert.Gather

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Peers -/

/-- The seven steps along the device's row and the three along its column. -/
abbrev D : Type := Fin 7 ⊕ Fin 3

/-- The device `r + 1` places further along the row of `c`, cyclically. -/
def rowPeer (c : Dev nD) (r : Fin 7) : Dev nD :=
  ⟨8 * (c.val / 8) + (c.val % 8 + (r.val + 1)) % 8, by have := c.isLt; simp only [nD] at *; omega⟩
/-- The device `r + 1` places further along the column of `c`, cyclically. -/
def colPeer (c : Dev nD) (r : Fin 3) : Dev nD :=
  ⟨8 * ((c.val / 8 + (r.val + 1)) % 4) + c.val % 8, by have := c.isLt; simp only [nD] at *; omega⟩

/-- The device a step leads to. -/
def peer (c : Dev nD) : D → Dev nD
  | .inl r => rowPeer c r
  | .inr r => colPeer c r
/-- The step that leads back. -/
def back : D → D
  | .inl r => .inl r.rev
  | .inr r => .inr r.rev

theorem back_back (d : D) : back (back d) = d := by revert d; decide
theorem peer_back (c : Dev nD) (d : D) : peer (peer c d) (back d) = c := by
  have hc := c.isLt
  simp only [nD] at hc
  rcases d with r | r <;> simp only [peer, back, rowPeer, colPeer, Fin.ext_iff, Fin.val_rev] <;> have := r.isLt <;> omega
theorem peer_back' (c : Dev nD) (d : D) : peer (peer c (back d)) d = c := by
  have := peer_back c (back d); rwa [back_back] at this

/-- One step, as a permutation of the devices. -/
def peerE (d : D) : Dev nD ≃ Dev nD := ⟨(peer · d), (peer · (back d)), (peer_back · d), (peer_back' · d)⟩
/-- Turning every step round, as a permutation of the steps. -/
def backE : D ≃ D := ⟨back, back, back_back, back_back⟩

/-! ## Cells -/

/-- A device's own transfer cells: a departure and an arrival per step, and the one of the weights. -/
abbrev Sc : Type := D ⊕ D ⊕ Unit
@[match_pattern] abbrev snd (d : D) : Sc := .inl d
@[match_pattern] abbrev rcv (d : D) : Sc := .inr (.inl d)
@[match_pattern] abbrev wgt : Sc := .inr (.inr ())

def dmaOf : Sc → DmaSem sig
  | snd (.inl r) => ⟨3 + r.val, by have := r.isLt; show _ < 27; omega⟩
  | snd (.inr r) => ⟨19 + r.val, by have := r.isLt; show _ < 27; omega⟩
  | rcv (.inl r) => ⟨11 + r.val, by have := r.isLt; show _ < 27; omega⟩
  | rcv (.inr r) => ⟨23 + r.val, by have := r.isLt; show _ < 27; omega⟩
  | wgt => ⟨26, by decide⟩

/-- The semaphore of a channel: none is the barrier. -/
def semOf : Option Sc → SemLoc sig
  | none => .reg barrier0
  | some s => .dma (dmaOf s)

def dmaCh (i : ℕ) : Option Sc :=
  if h : 3 ≤ i ∧ i < 10 then some (snd (.inl ⟨i - 3, by omega⟩))
  else if h : 11 ≤ i ∧ i < 18 then some (rcv (.inl ⟨i - 11, by omega⟩))
  else if h : 19 ≤ i ∧ i < 22 then some (snd (.inr ⟨i - 19, by omega⟩))
  else if h : 23 ≤ i ∧ i < 26 then some (rcv (.inr ⟨i - 23, by omega⟩))
  else if i = 26 then some wgt else none

/-- The channel of a semaphore, where it is one of the protocol's. -/
def chOf : SemLoc sig → Option (Option Sc)
  | .reg _ => some none
  | .dma i => (dmaCh i.val).map some

theorem chOf_semOf (ch : Option Sc) : chOf (semOf ch) = some ch := by revert ch; decide

abbrev cell (c : Dev nD) (ch : Option Sc) : GSem nD τ sig := ((c : Thread nD τ), semOf ch)
abbrev barCell (c : Dev nD) : GSem nD τ sig := cell c none
abbrev sndCell (c : Dev nD) (d : D) : GSem nD τ sig := cell c (some (snd d))
abbrev rcvCell (c : Dev nD) (d : D) : GSem nD τ sig := cell c (some (rcv d))
abbrev wgtCell (c : Dev nD) : GSem nD τ sig := cell c (some wgt)

theorem semOf_inj : Function.Injective semOf := fun a b h => by
  have := congrArg chOf h; rwa [chOf_semOf, chOf_semOf, Option.some.injEq] at this

theorem cell_inj {c c' : Dev nD} {a b : Option Sc} (h : cell c a = cell c' b) : c = c' ∧ a = b := by
  have h1 : (c : Thread nD τ) = (c' : Thread nD τ) := congrArg Prod.fst h
  have h2 : semOf a = semOf b := congrArg Prod.snd h
  exact ⟨congrArg Prod.fst h1, semOf_inj h2⟩

/-! ## Contents -/

/-- What a 4×8×32×32 buffer holds. -/
abbrev Blk (F : FTy → Type) : Type := S4x8x32x32.Idx → Elt F .f32
abbrev Wts (F : FTy → Type) : Type := S1024x1024.Idx → Elt F .f32

/-- The positions of one column, and of one row, of a 4×8×32×32 buffer. -/
def colSet (j : ℕ) : Finset S4x8x32x32.Idx := Finset.univ.filter fun i => (i 1).val = j
def rowSet (j : ℕ) : Finset S4x8x32x32.Idx := Finset.univ.filter fun i => (i 0).val = j
theorem mem_colSet {j : ℕ} {i : S4x8x32x32.Idx} : i ∈ colSet j ↔ (i 1).val = j := by simp [colSet]
theorem mem_rowSet {j : ℕ} {i : S4x8x32x32.Idx} : i ∈ rowSet j ↔ (i 0).val = j := by simp [rowSet]

/-- The position `i` with its column, or its row, replaced. -/
def setCol (i : S4x8x32x32.Idx) (j : Fin 8) : S4x8x32x32.Idx := Function.update i 1 j
def setRow (i : S4x8x32x32.Idx) (j : Fin 4) : S4x8x32x32.Idx := Function.update i 0 j

def c1 (c : Dev nD) : Fin 4 := ⟨c.val / 8, by have := c.isLt; simp only [nD] at this; omega⟩
def c2 (c : Dev nD) : Fin 8 := ⟨c.val % 8, by omega⟩
def dev (a : Fin 4) (b : Fin 8) : Dev nD := ⟨8 * a.val + b.val, by have := a.isLt; have := b.isLt; simp only [nD]; omega⟩

/-- After the first stage, on device `c`: column `j` is column `c2` of what the `j`-th device of the row had. -/
def S1 (X : Dev nD → Blk F) (c : Dev nD) : Blk F := fun i => X (dev (c1 c) (i 1)) (setCol i (c2 c))
/-- After the second stage, on device `c`: row `i` is row `c1` of what the `i`-th device of the column had then. -/
def G (X : Dev nD → Blk F) (c : Dev nD) : Blk F := fun i => S1 X (dev (i 0) (c2 c)) (setRow i (c1 c))

/-! ## The resource algebra -/

abbrev UU : Type := UR sig nD τ × URounds (GSem nD τ sig) D

local notation "𝕄" => MT nD τ sig Unit (Elt F) ℕ UU ℕ

abbrev EP : Emb (UR sig nD τ) (MT nD τ sig Unit (Elt F) ℕ UU ℕ) := embL
abbrev ER : Emb (URounds (GSem nD τ sig) D) (MT nD τ sig Unit (Elt F) ℕ UU ℕ) := embR

/-! ## Points-tos -/

/-- Device `c`'s block of the input, its first-stage buffer and its second-stage buffer, in part. -/
abbrev xAt (c : Dev nD) (S : Finset S4x8x32x32.Idx) (f : Blk F) : sProp 𝕄 := ((c : Thread nD τ).loc cc0_stg0_0) ↦[S]{fullShare} f
abbrev sAt (c : Dev nD) (S : Finset S4x8x32x32.Idx) (f : Blk F) : sProp 𝕄 := ((c : Thread nD τ).loc cc0_scratch0) ↦[S]{fullShare} f
abbrev gAt (c : Dev nD) (S : Finset S4x8x32x32.Idx) (f : Blk F) : sProp 𝕄 := ((c : Thread nD τ).loc cc0_scratch1) ↦[S]{fullShare} f
abbrev wAt (c : Dev nD) (f : Wts F) : sProp 𝕄 := ((c : Thread nD τ).loc cc0_scratch2) ↦{fullShare} f
abbrev hAt (c : Dev nD) (f : Wts F) : sProp 𝕄 := ((c : Thread nD τ).loc main_arg1) ↦{fullShare} f

/-- The part of device `q`'s buffers that the device `c`, reaching it by step `d`, writes: column `c2` of the
    first-stage buffer, or row `c1` of the second-stage one. -/
def slot (q c : Dev nD) (d : D) (f : Blk F) : sProp 𝕄 :=
  match d with
  | .inl _ => sAt q (colSet (c2 c).val) f
  | .inr _ => gAt q (rowSet (c1 c).val) f

/-! ## The schedule -/

abbrev colView (j : ℕ) (h : ∀ a, (![0, j, 0, 0] : Fin 4 → ℕ) a + S4x1x32x32.size a ≤ S4x8x32x32.size a) :
    Memref sig .tc .vmem S4x32x32 .f32 :=
  ((Memref.whole cc0_scratch0).slice (Rect.unit (s := S4x8x32x32) ![0, j, 0, 0] S4x1x32x32.size h) (fun _ => rfl)).squeeze S4x32x32 squeezes_S4x1x32x32_S4x32x32
abbrev rowView (j : ℕ) (h : ∀ a, (![j, 0, 0, 0] : Fin 4 → ℕ) a + S1x8x32x32.size a ≤ S4x8x32x32.size a) :
    Memref sig .tc .vmem S8x32x32 .f32 :=
  ((Memref.whole cc0_scratch1).slice (Rect.unit (s := S4x8x32x32) ![j, 0, 0, 0] S1x8x32x32.size h) (fun _ => rfl)).squeeze S8x32x32 squeezes_S1x8x32x32_S8x32x32

/-- What a landing credits: a column, a row, the weights. -/
def N1 : ℕ := (colView 0 inb_S4x8x32x32_S4x1x32x32_0_0_0_0).view.dmaCredit
def N2 : ℕ := (rowView 0 inb_S4x8x32x32_S1x8x32x32_0_0_0_0).view.dmaCredit
def N3 : ℕ := (Memref.whole cc0_scratch2).view.dmaCredit
theorem N1_pos : 0 < N1 := View.dmaCredit_pos _ (by decide)
theorem N2_pos : 0 < N2 := View.dmaCredit_pos _ (by decide)
theorem N3_pos : 0 < N3 := View.dmaCredit_pos _ (by decide)

def amtD : D → ℕ
  | .inl _ => N1
  | .inr _ => N2
def amt : Sc → ℕ
  | snd d => amtD d
  | rcv d => amtD d
  | wgt => N3
theorem amt_pos (s : Sc) : 0 < amt s := by
  rcases s with (_ | _) | (_ | _) | _ <;> first | exact N1_pos | exact N2_pos | exact N3_pos

section Sched

variable (X : Dev nD → Blk F) (Wt : Dev nD → Wts F)

/-- Paid to `p`'s barrier by its peer along step `d`: the part of the peer's buffers that `p` writes, and that
    the peer's arrival cell for it is open. -/
def barPay (p : Dev nD) (d : D) : sProp 𝕄 :=
  iprop((∃ f, slot (peer p d) p d f) ∗ reached ER (rcvCell (peer p d) d) 0)
/-- What a departure gives back: the part sent. -/
def sndPay (c : Dev nD) (d : D) : sProp 𝕄 :=
  match d with
  | .inl r => xAt c (colSet (c2 (rowPeer c r)).val) (X c)
  | .inr r => sAt c (rowSet (c1 (colPeer c r)).val) (S1 X c)
/-- What an arrival delivers: the part written, at its final contents. -/
def rcvPay (p : Dev nD) (d : D) : sProp 𝕄 :=
  match d with
  | .inl r => sAt p (colSet (c2 (peer p (back d))).val) (S1 X p)
  | .inr r => gAt p (rowSet (c1 (peer p (back d))).val) (G X p)
def wgtPay (c : Dev nD) : sProp 𝕄 := iprop(wAt c (Wt c) ∗ hAt c (Wt c))

def pay (c : Dev nD) : Sc → sProp 𝕄
  | snd d => sndPay X c d
  | rcv d => rcvPay X c d
  | wgt => wgtPay Wt c

/-- One round on every cell: ten duties on a barrier, one on a transfer cell. -/
def Rd : Rounds.Schedule (GSem nD τ sig) D 𝕄 where
  duties g r := if r = 0 ∧ g.1.2 = .tc then
      (match chOf g.2 with | some none => Finset.univ | some (some _) => {.inl 0} | none => ∅) else ∅
  unitless _ := False
  amount g _ _ := match chOf g.2 with | some (some s) => amt s | _ => 1
  payload g _ d := match chOf g.2 with | some none => barPay g.1.1 d | some (some s) => pay X Wt g.1.1 s | none => iprop(emp)
  amount_pos g _ _ _ := by
    split
    · exact amt_pos _
    · exact Nat.one_pos

instance slot_storable (q c : Dev nD) (d : D) (f : Blk F) : BI.Storable (upEmb : UEmb _ 𝕄) (slot q c d f) := by
  rcases d with r | r <;> unfold slot <;> infer_instance

instance Rd_storable (g : GSem nD τ sig) (r : ℕ) (d : D) :
    BI.Storable (upEmb : UEmb _ 𝕄) ((Rd (F := F) X Wt).payload g r d) := by
  show BI.Storable upEmb (match chOf g.2 with | some none => barPay g.1.1 d | some (some s) => pay X Wt g.1.1 s | none => iprop(emp))
  split
  · unfold barPay; infer_instance
  · next s _ =>
    rcases s with (d | d) | (d | d) | _ <;> simp only [pay, sndPay, rcvPay, wgtPay] <;> infer_instance
  · infer_instance

theorem duties_bar (c : Dev nD) : (Rd X Wt).duties (barCell c) 0 = Finset.univ := by
  dsimp only [Rd]; rw [if_pos ⟨rfl, rfl⟩, chOf_semOf]
theorem duties_sc (c : Dev nD) (s : Sc) : (Rd X Wt).duties (cell c (some s)) 0 = {.inl 0} := by
  dsimp only [Rd]; rw [if_pos ⟨rfl, rfl⟩, chOf_semOf]
theorem duties_later (g : GSem nD τ sig) : ∀ r, 1 ≤ r → (Rd X Wt).duties g r = ∅ :=
  fun r hr => by dsimp only [Rd]; rw [if_neg (fun h => by omega)]
theorem amount_bar (c : Dev nD) (d : D) : (Rd X Wt).amount (barCell c) 0 d = 1 := by
  dsimp only [Rd]; rw [chOf_semOf]
theorem amount_sc (c : Dev nD) (s : Sc) (d : D) : (Rd X Wt).amount (cell c (some s)) 0 d = amt s := by
  dsimp only [Rd]; rw [chOf_semOf]
theorem payload_bar (c : Dev nD) (d : D) : (Rd X Wt).payload (barCell c) 0 d = barPay c d := by
  dsimp only [Rd]; rw [chOf_semOf]
theorem payload_sc (c : Dev nD) (s : Sc) (d : D) : (Rd X Wt).payload (cell c (some s)) 0 d = pay X Wt c s := by
  dsimp only [Rd]; rw [chOf_semOf]
theorem expect_bar (c : Dev nD) : (Rd X Wt).expect (barCell c) 0 = 10 := by
  unfold Schedule.expect Schedule.amountOf
  rw [duties_bar, Finset.sum_congr rfl (fun d _ => amount_bar X Wt c d)]; rfl
theorem expect_sc (c : Dev nD) (s : Sc) : (Rd X Wt).expect (cell c (some s)) 0 = amt s := by
  unfold Schedule.expect Schedule.amountOf; rw [duties_sc, Finset.sum_singleton, amount_sc]
theorem rest_bar (c : Dev nD) : bigSep ((Rd X Wt).duties (barCell c) 0 \ ∅) (fun d => (Rd X Wt).payload (barCell c) 0 d)
    = bigSep Finset.univ (fun d => barPay (F := F) c d) := by
  rw [Finset.sdiff_empty, duties_bar]; exact BI.bigSep_congr fun d _ => payload_bar X Wt c d
theorem rest_sc (c : Dev nD) (s : Sc) : bigSep ((Rd X Wt).duties (cell c (some s)) 0 \ ∅)
    (fun d => (Rd X Wt).payload (cell c (some s)) 0 d) = pay X Wt c s := by
  rw [Finset.sdiff_empty, duties_sc, bigSep_singleton, payload_sc]

end Sched

/-! ## What each device owes when it starts; the order of waiting -/

/-- What is still owed of a family of payments made in order, from the `n`-th on. -/
def rem {n : ℕ} (f : Fin n → CellTallies nD τ sig Unit) (k : ℕ) : CellTallies nD τ sig Unit := ∑ r, if k ≤ r.val then f r else 0

theorem rem_zero {n : ℕ} (f : Fin n → CellTallies nD τ sig Unit) : rem f 0 = ∑ r, f r := by
  unfold rem; exact Finset.sum_congr rfl fun r _ => if_pos (Nat.zero_le _)
theorem rem_last {n : ℕ} (f : Fin n → CellTallies nD τ sig Unit) : rem f n = 0 := by
  unfold rem; exact Finset.sum_eq_zero fun r _ => if_neg (by have := r.isLt; omega)
theorem rem_step {n : ℕ} (f : Fin n → CellTallies nD τ sig Unit) (r : Fin n) : rem f r.val = rem f (r.val + 1) + f r := by
  unfold rem
  rw [← Finset.sum_erase_add _ (fun q : Fin n => if r.val ≤ q.val then f q else 0) (Finset.mem_univ r),
    ← Finset.sum_erase_add _ (fun q : Fin n => if r.val + 1 ≤ q.val then f q else 0) (Finset.mem_univ r),
    if_pos le_rfl, if_neg (by omega), add_zero]
  refine congrArg (· + f r) (Finset.sum_congr rfl fun q hq => ?_)
  have hne : q.val ≠ r.val := fun h => (Finset.mem_erase.mp hq).1 (Fin.ext h)
  by_cases h : r.val ≤ q.val
  · rw [if_pos h, if_pos (by omega)]
  · rw [if_neg h, if_neg (by omega)]

/-- The unit paid to a peer's barrier, the credit paid to a peer's arrival cell. -/
def oBar (c : Dev nD) (d : D) : CellTallies nD τ sig Unit := tallyAt (barCell (peer c d)) () 1
def oRcv (c : Dev nD) (d : D) : CellTallies nD τ sig Unit := tallyAt (rcvCell (peer c d) d) () (amtD d)

/-- What is owed with `a`, `b` barrier units and `e`, `g` landings already paid along the row and the column. -/
def owed (c : Dev nD) (a b e g : ℕ) : CellTallies nD τ sig Unit :=
  rem (fun r => oRcv c (.inr r)) g + rem (fun r => oRcv c (.inl r)) e + rem (fun r => oBar c (.inr r)) b + rem (fun r => oBar c (.inl r)) a

def O₀ (c : Dev nD) : CellTallies nD τ sig Unit := owed c 0 0 0 0

def L (g : GSem nD τ sig) : Finset Unit := if g.1.2 = .tc then {()} else ∅
/-- Barriers first, then the first stage's arrivals, then the second's; the rest below. -/
def lv (g : GSem nD τ sig) (_ : Unit) : ℕ :=
  match chOf g.2 with
  | some none => 1
  | some (some (rcv (.inl _))) => 2
  | some (some (rcv (.inr _))) => 3
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [chOf_semOf]
theorem lv_row (c : Dev nD) (r : Fin 7) : lv (rcvCell c (.inl r)) () = 2 := by dsimp only [lv]; rw [chOf_semOf]
theorem lv_col (c : Dev nD) (r : Fin 3) : lv (rcvCell c (.inr r)) () = 3 := by dsimp only [lv]; rw [chOf_semOf]

/-- Whatever of a family is still owed is owed to one of its cells. -/
theorem rem_pos {n : ℕ} {f : Fin n → CellTallies nD τ sig Unit} {k : ℕ} {g : GSem nD τ sig} {u : Unit}
    (h : 0 < rem f k g u) : ∃ r, 0 < f r g u := by
  unfold rem at h
  by_contra hn
  push Not at hn
  rw [Finset.sum_apply, Finsupp.finset_sum_apply] at h
  refine absurd h (Nat.not_lt.2 (le_of_eq (Finset.sum_eq_zero fun r _ => ?_)))
  split
  · exact Nat.le_zero.mp (hn r)
  · rfl

theorem oRcv_pos {c : Dev nD} {d : D} {g : GSem nD τ sig} {u : Unit} (h : 0 < oRcv c d g u) : g = rcvCell (peer c d) d := by
  unfold oRcv at h
  rw [tallyAt_apply] at h
  by_contra hn
  rw [if_neg (fun h' => hn h'.1)] at h
  exact absurd h (Nat.lt_irrefl 0)

theorem owed_pos {c : Dev nD} {e k : ℕ} {g : GSem nD τ sig} {u : Unit} (h : 0 < owed c 7 3 e k g u) :
    (∃ r, g = rcvCell (rowPeer c r) (.inl r)) ∨ ∃ r, g = rcvCell (colPeer c r) (.inr r) := by
  unfold owed at h
  rw [rem_last, rem_last, add_zero, add_zero] at h
  rcases Nat.add_pos_iff_pos_or_pos.mp (show 0 < _ + _ from h) with h | h
  · obtain ⟨r, hr⟩ := rem_pos h; exact .inr ⟨r, oRcv_pos hr⟩
  · obtain ⟨r, hr⟩ := rem_pos h; exact .inl ⟨r, oRcv_pos hr⟩

/-- The barrier is waited for with both stages' landings owed. -/
theorem mayWait_bar (c : Dev nD) : (levAts L lv : sProp 𝕄) ⊢ MayWait (c : Thread nD τ) (semOf none) () (owed c 7 3 0 0) :=
  MayOwe.of_cut (L := L) (lev := lv) 1 (fun p hp => by rw [Finset.mem_singleton.mp hp, L_tc]; exact Finset.mem_singleton_self _)
    (fun g u hg => by
      rcases owed_pos hg with ⟨r, rfl⟩ | ⟨r, rfl⟩ <;> rw [L_tc] <;> exact Finset.mem_singleton_self _)
    (fun p hp => by rw [Finset.mem_singleton.mp hp]; exact le_of_eq (lv_bar c))
    (fun g u hg => by
      rcases owed_pos hg with ⟨r, rfl⟩ | ⟨r, rfl⟩
      · exact lt_of_lt_of_eq (by decide) (lv_row _ r).symm
      · exact lt_of_lt_of_eq (by decide) (lv_col _ r).symm)

/-- A first-stage arrival is waited for with the second stage's landings owed. -/
theorem mayWait_row (c : Dev nD) (r : Fin 7) :
    (levAts L lv : sProp 𝕄) ⊢ MayWait (c : Thread nD τ) (semOf (some (rcv (.inl r)))) () (owed c 7 3 7 0) :=
  have key : ∀ {g : GSem nD τ sig} {u : Unit}, 0 < owed c 7 3 7 0 g u → ∃ r, g = rcvCell (colPeer c r) (.inr r) := fun {g u} h => by
    unfold owed at h
    rw [rem_last, rem_last, rem_last, add_zero, add_zero, add_zero] at h
    obtain ⟨r, hr⟩ := rem_pos h; exact ⟨r, oRcv_pos hr⟩
  MayOwe.of_cut (L := L) (lev := lv) 2 (fun p hp => by rw [Finset.mem_singleton.mp hp, L_tc]; exact Finset.mem_singleton_self _)
    (fun g u hg => by obtain ⟨r, rfl⟩ := key hg; rw [L_tc]; exact Finset.mem_singleton_self _)
    (fun p hp => by rw [Finset.mem_singleton.mp hp]; exact le_of_eq (lv_row c r))
    (fun g u hg => by obtain ⟨r, rfl⟩ := key hg; exact lt_of_lt_of_eq (by decide) (lv_col _ r).symm)

theorem owed_done (c : Dev nD) : owed c 7 3 7 3 = 0 := by
  unfold owed; rw [rem_last, rem_last, rem_last, rem_last]; simp

end Cert.Gather

end
-- ==== Proof.Geometry.lean ====
/-
The columns and rows of the exchange buffers: the positions of the views the transfers, loads and stores go
through, what a transfer or a store leaves there, and the splitting of a whole buffer into them.
-/
module

public import proofs.«01_k».proof.Proof.Protocol

@[expose] public section

noncomputable section

namespace Cert.Gather

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Rectangles -/

/-- The rectangle of one column, and of one row. -/
abbrev colRect (off : Fin 4 → ℕ) (h : ∀ a, off a + S4x1x32x32.size a ≤ S4x8x32x32.size a) : Rect S4x8x32x32 :=
  Rect.unit (s := S4x8x32x32) off S4x1x32x32.size h
abbrev rowRect (off : Fin 4 → ℕ) (h : ∀ a, off a + S1x8x32x32.size a ≤ S4x8x32x32.size a) : Rect S4x8x32x32 :=
  Rect.unit (s := S4x8x32x32) off S1x8x32x32.size h

theorem colRect_set {off : Fin 4 → ℕ} {h} {j : ℕ} (ho : off = ![0, j, 0, 0]) : (colRect off h).set = colSet j := by
  subst ho
  ext i
  rw [Rect.mem_set_unit, mem_colSet]
  have h0 := (i 0).isLt; have h2 := (i 2).isLt; have h3 := (i 3).isLt
  constructor
  · intro H
    have := H 1
    simp [S4x1x32x32] at this
    omega
  · intro H a
    fin_cases a <;> simp [S4x1x32x32, S4x8x32x32] at * <;> omega

theorem rowRect_set {off : Fin 4 → ℕ} {h} {j : ℕ} (ho : off = ![j, 0, 0, 0]) : (rowRect off h).set = rowSet j := by
  subst ho
  ext i
  rw [Rect.mem_set_unit, mem_rowSet]
  have h1 := (i 1).isLt; have h2 := (i 2).isLt; have h3 := (i 3).isLt
  constructor
  · intro H
    have := H 0
    simp [S1x8x32x32] at this
    omega
  · intro H a
    fin_cases a <;> simp [S1x8x32x32, S4x8x32x32] at * <;> omega

theorem setCol_at (i : S4x8x32x32.Idx) (j : Fin 8) : setCol i j 1 = j := Function.update_self ..
theorem setCol_ne {i : S4x8x32x32.Idx} {j : Fin 8} {a : Fin S4x8x32x32.rank} (h : a ≠ 1) : setCol i j a = i a := Function.update_of_ne h ..
theorem setRow_at (i : S4x8x32x32.Idx) (j : Fin 4) : setRow i j 0 = j := Function.update_self ..
theorem setRow_ne {i : S4x8x32x32.Idx} {j : Fin 4} {a : Fin S4x8x32x32.rank} (h : a ≠ 0) : setRow i j a = i a := Function.update_of_ne h ..

/-- The positions of two columns match, the column replaced. -/
theorem colRect_emb {off off' : Fin 4 → ℕ} {h h'} {j : ℕ} {j' : Fin 8} (ho : off = ![0, j, 0, 0]) (ho' : off' = ![0, j'.val, 0, 0])
    (x : S4x1x32x32.Idx) : (colRect off' h').emb x = setCol ((colRect off h).emb x) j' := by
  subst ho; subst ho'
  have hx : (x 1).val < 1 := (x 1).isLt
  funext a
  by_cases ha : a = 1
  · subst ha
    rw [setCol_at]
    apply Fin.ext
    rw [Rect.emb_apply]
    show j'.val + 1 * (x 1).val = j'.val
    omega
  · rw [setCol_ne ha]
    apply Fin.ext
    rw [Rect.emb_apply, Rect.emb_apply]
    fin_cases a <;> first | rfl | exact absurd rfl ha

theorem rowRect_emb {off off' : Fin 4 → ℕ} {h h'} {j : ℕ} {j' : Fin 4} (ho : off = ![j, 0, 0, 0]) (ho' : off' = ![j'.val, 0, 0, 0])
    (x : S1x8x32x32.Idx) : (rowRect off' h').emb x = setRow ((rowRect off h).emb x) j' := by
  subst ho; subst ho'
  have hx : (x 0).val < 1 := (x 0).isLt
  funext a
  by_cases ha : a = 0
  · subst ha
    rw [setRow_at]
    apply Fin.ext
    rw [Rect.emb_apply]
    show j'.val + 1 * (x 0).val = j'.val
    omega
  · rw [setRow_ne ha]
    apply Fin.ext
    rw [Rect.emb_apply, Rect.emb_apply]
    fin_cases a <;> first | rfl | exact absurd rfl ha

theorem setCol_self {i : S4x8x32x32.Idx} {j : Fin 8} (h : (i 1).val = j.val) : setCol i j = i := by
  unfold setCol
  rw [show j = i 1 from Fin.ext h.symm]; exact Function.update_eq_self _ _
theorem setRow_self {i : S4x8x32x32.Idx} {j : Fin 4} (h : (i 0).val = j.val) : setRow i j = i := by
  unfold setRow
  rw [show j = i 0 from Fin.ext h.symm]; exact Function.update_eq_self _ _

/-! ## The views of the transfers -/

/-- One column of a whole buffer, one row of it, as the transfers address them. -/
abbrev colV (M : Memref sig .tc .vmem S4x8x32x32 .f32) (off : Fin 4 → ℕ) (h : ∀ a, off a + S4x1x32x32.size a ≤ S4x8x32x32.size a) :
    Memref sig .tc .vmem S4x32x32 .f32 :=
  (M.slice (colRect off h) (fun _ => rfl)).squeeze S4x32x32 squeezes_S4x1x32x32_S4x32x32
abbrev rowV (M : Memref sig .tc .vmem S4x8x32x32 .f32) (off : Fin 4 → ℕ) (h : ∀ a, off a + S1x8x32x32.size a ≤ S4x8x32x32.size a) :
    Memref sig .tc .vmem S8x32x32 .f32 :=
  (M.slice (rowRect off h) (fun _ => rfl)).squeeze S8x32x32 squeezes_S1x8x32x32_S8x32x32

abbrev xM : Memref sig .tc .vmem S4x8x32x32 .f32 := Memref.whole cc0_stg0_0
abbrev sM : Memref sig .tc .vmem S4x8x32x32 .f32 := Memref.whole cc0_scratch0
abbrev gM : Memref sig .tc .vmem S4x8x32x32 .f32 := Memref.whole cc0_scratch1
abbrev wM : Memref sig .tc .vmem S1024x1024 .f32 := Memref.whole cc0_scratch2
abbrev hM : Memref sig .tc .hbm S1024x1024 .f32 := Memref.whole main_arg1
abbrev oM : Memref sig .tc .vmem S32x1024 .f32 := Memref.whole cc0_stg1_0

section Views

variable {off off' : Fin 4 → ℕ} {j : ℕ}

theorem xcol_set {h} (ho : off = ![0, j, 0, 0]) : (colV xM off h).view.set = colSet j :=
  (View.set_reshape _ _).trans ((View.set_slice_whole _ _).trans (colRect_set ho))
theorem scol_set {h} (ho : off = ![0, j, 0, 0]) : (colV sM off h).view.set = colSet j :=
  (View.set_reshape _ _).trans ((View.set_slice_whole _ _).trans (colRect_set ho))
theorem srow_set {h} (ho : off = ![j, 0, 0, 0]) : (rowV sM off h).view.set = rowSet j :=
  (View.set_reshape _ _).trans ((View.set_slice_whole _ _).trans (rowRect_set ho))
theorem grow_set {h} (ho : off = ![j, 0, 0, 0]) : (rowV gM off h).view.set = rowSet j :=
  (View.set_reshape _ _).trans ((View.set_slice_whole _ _).trans (rowRect_set ho))

/-- A column landing: what the other column held, position by position. -/
theorem col_landed {h h'} {j' : Fin 8} (ho : off = ![0, j, 0, 0]) (ho' : off' = ![0, j'.val, 0, 0]) (fd fs : Blk F)
    {i : S4x8x32x32.Idx} (hi : i ∈ colSet j) :
    (colV sM off h).view.write (Elt F) fd ((colV xM off' h').view.read (Elt F) fs) Finset.univ i = fs (setCol i j') := by
  rw [← scol_set (h := h) ho] at hi
  obtain ⟨y, -, rfl⟩ := Finset.mem_map.mp hi
  refine (View.write_emb_of_mem (v := (colV sM off h).view) fd _ (Finset.mem_univ y)).trans ?_
  show fs ((colV xM off' h').view.emb y) = fs _
  exact congrArg fs (colRect_emb (h := h) (h' := h') ho ho' _)

theorem row_landed {h h'} {j' : Fin 4} (ho : off = ![j, 0, 0, 0]) (ho' : off' = ![j'.val, 0, 0, 0]) (fd fs : Blk F)
    {i : S4x8x32x32.Idx} (hi : i ∈ rowSet j) :
    (rowV gM off h).view.write (Elt F) fd ((rowV sM off' h').view.read (Elt F) fs) Finset.univ i = fs (setRow i j') := by
  rw [← grow_set (h := h) ho] at hi
  obtain ⟨y, -, rfl⟩ := Finset.mem_map.mp hi
  refine (View.write_emb_of_mem (v := (rowV gM off h).view) fd _ (Finset.mem_univ y)).trans ?_
  show fs ((rowV sM off' h').view.emb y) = fs _
  exact congrArg fs (rowRect_emb (h := h) (h' := h') ho ho' _)

theorem pay2_eq (v : Vec F S4x1x32x32 .f32) : k0_pay2 v = v := by
  funext i
  show v (Shape.reshapeEquiv _ (Shape.reshapeEquiv _ i)) = v i
  rw [Shape.reshapeEquiv_reshapeEquiv, Shape.reshapeEquiv_self]
theorem pay3_eq (v : Vec F S1x8x32x32 .f32) : k0_pay3 v = v := by
  funext i
  show v (Shape.reshapeEquiv _ (Shape.reshapeEquiv _ i)) = v i
  rw [Shape.reshapeEquiv_reshapeEquiv, Shape.reshapeEquiv_self]

/-- The own column stored: what it was loaded from, position by position. -/
theorem col_stored {h h'} (ho : off = ![0, j, 0, 0]) (ho' : off' = off) (fd fs : Blk F)
    {i : S4x8x32x32.Idx} (hi : i ∈ colSet j) :
    (sM.access (colRect off h)).write (Elt F) fd (k0_pay2 (xM.view.readAt (Elt F) (colRect off' h').toLoadRect fs)) Finset.univ i = fs i := by
  subst ho'
  rw [← colRect_set (h := h) ho, ← Rect.map_emb_univ] at hi
  obtain ⟨y, -, rfl⟩ := Finset.mem_map.mp hi
  refine (View.write_emb_of_mem (v := sM.access (colRect off' h)) fd _ (Finset.mem_univ y)).trans ?_
  rw [pay2_eq]; rfl
theorem row_stored {h h'} (ho : off = ![j, 0, 0, 0]) (ho' : off' = off) (fd fs : Blk F)
    {i : S4x8x32x32.Idx} (hi : i ∈ rowSet j) :
    (gM.access (rowRect off h)).write (Elt F) fd (k0_pay3 (sM.view.readAt (Elt F) (rowRect off' h').toLoadRect fs)) Finset.univ i = fs i := by
  subst ho'
  rw [← rowRect_set (h := h) ho, ← Rect.map_emb_univ] at hi
  obtain ⟨y, -, rfl⟩ := Finset.mem_map.mp hi
  refine (View.write_emb_of_mem (v := gM.access (rowRect off' h)) fd _ (Finset.mem_univ y)).trans ?_
  rw [pay3_eq]; rfl

end Views

/-! ## Splitting a whole buffer -/

theorem c2_rowPeer (c : Dev nD) (r : Fin 7) : (c2 (rowPeer c r)).val = ((c2 c).val + (r.val + 1)) % 8 := by
  have hc := c.isLt; simp only [nD] at hc
  simp only [c2, rowPeer]; omega
theorem c1_rowPeer (c : Dev nD) (r : Fin 7) : c1 (rowPeer c r) = c1 c := by
  have hc := c.isLt; simp only [nD] at hc
  apply Fin.ext; simp only [c1, rowPeer]; omega
theorem c1_colPeer (c : Dev nD) (r : Fin 3) : (c1 (colPeer c r)).val = ((c1 c).val + (r.val + 1)) % 4 := by
  have hc := c.isLt; simp only [nD] at hc
  simp only [c1, colPeer]; omega
theorem c2_colPeer (c : Dev nD) (r : Fin 3) : c2 (colPeer c r) = c2 c := by
  have hc := c.isLt; simp only [nD] at hc
  apply Fin.ext; simp only [c2, colPeer]; omega
theorem dev_c (c : Dev nD) : dev (c1 c) (c2 c) = c := by
  apply Fin.ext; simp only [dev, c1, c2]; omega

theorem cols_cover (k : ℕ) (hk : k < 8) {e : Fin 7 → ℕ} (he : ∀ r, e r = (k + (r.val + 1)) % 8) (i : S4x8x32x32.Idx) :
    i ∈ colSet k ∨ ∃ r : Fin 7, i ∈ colSet (e r) := by
  simp only [mem_colSet]
  have hi : (i 1).val < 8 := (i 1).isLt
  by_cases h : (i 1).val = k
  · exact .inl h
  · exact .inr ⟨⟨((i 1).val + 7 - k) % 8, by omega⟩, by rw [he]; simp only []; omega⟩
theorem rows_cover (k : ℕ) (hk : k < 4) {e : Fin 3 → ℕ} (he : ∀ r, e r = (k + (r.val + 1)) % 4) (i : S4x8x32x32.Idx) :
    i ∈ rowSet k ∨ ∃ r : Fin 3, i ∈ rowSet (e r) := by
  simp only [mem_rowSet]
  have hi : (i 0).val < 4 := (i 0).isLt
  by_cases h : (i 0).val = k
  · exact .inl h
  · exact .inr ⟨⟨((i 0).val + 3 - k) % 4, by omega⟩, by rw [he]; simp only []; omega⟩

theorem colSet_disjoint {a b : ℕ} (h : a ≠ b) (i : S4x8x32x32.Idx) : i ∈ colSet a → i ∉ colSet b :=
  fun hi hj => h ((mem_colSet.mp hi).symm.trans (mem_colSet.mp hj))
theorem rowSet_disjoint {a b : ℕ} (h : a ≠ b) (i : S4x8x32x32.Idx) : i ∈ rowSet a → i ∉ rowSet b :=
  fun hi hj => h ((mem_rowSet.mp hi).symm.trans (mem_rowSet.mp hj))

/-- A whole points-to along a cover by one set and finitely many others, pairwise disjoint. -/
theorem split_along {n : ℕ} (ℓ : Loc nD τ sig) (A : Finset (Idx ℓ)) (K : Fin n → Finset (Idx ℓ)) (f : Buf (Elt F) ℓ)
    (hc : ∀ i, i ∈ A ∨ ∃ r, i ∈ K r)
    (hA : ∀ r, ∀ i, i ∈ A → i ∉ K r) (hK : ∀ r r', r ≠ r' → ∀ i, i ∈ K r → i ∉ K r') :
    ((ℓ ↦[Finset.univ]{fullShare} f) : sProp 𝕄) = iprop((ℓ ↦[A]{fullShare} f) ∗ bigSep Finset.univ fun r => (ℓ ↦[K r]{fullShare} f)) := by
  have hu : (Finset.univ : Finset (Idx ℓ)) = A ∪ Finset.univ.biUnion K := by
    ext i
    simp only [Finset.mem_univ, true_iff, Finset.mem_union, Finset.mem_biUnion, true_and]
    exact hc i
  rw [hu, ← pointsTo_biUnion Finset.univ K (fun r _ r' _ h => Finset.disjoint_left.mpr fun i => hK r r' h i)]
  have hd : Disjoint A (Finset.univ.biUnion K) :=
    (Finset.disjoint_biUnion_right _ _ _).mpr fun r _ => Finset.disjoint_left.mpr fun i => hA r i
  exact Entails.antisymm (pointsTo_union hd).1 (pointsTo_union hd).2

theorem e7 {k : ℕ} (hk : k < 8) {e : Fin 7 → ℕ} (he : ∀ r, e r = (k + (r.val + 1)) % 8) :
    (∀ r, ∀ i, i ∈ colSet k → i ∉ colSet (e r)) ∧ ∀ r r', r ≠ r' → ∀ i, i ∈ colSet (e r) → i ∉ colSet (e r') :=
  ⟨fun r => colSet_disjoint (by rw [he]; have := r.isLt; omega),
    fun r r' h => colSet_disjoint (by rw [he, he]; have := r.isLt; have := r'.isLt; intro h'; exact h (Fin.ext (by omega)))⟩
theorem e3 {k : ℕ} (hk : k < 4) {e : Fin 3 → ℕ} (he : ∀ r, e r = (k + (r.val + 1)) % 4) :
    (∀ r, ∀ i, i ∈ rowSet k → i ∉ rowSet (e r)) ∧ ∀ r r', r ≠ r' → ∀ i, i ∈ rowSet (e r) → i ∉ rowSet (e r') :=
  ⟨fun r => rowSet_disjoint (by rw [he]; have := r.isLt; omega),
    fun r r' h => rowSet_disjoint (by rw [he, he]; have := r.isLt; have := r'.isLt; intro h'; exact h (Fin.ext (by omega)))⟩

/-- Device `c`'s input block, and its first-stage buffer, by columns; its first- and second-stage buffers by rows. -/
theorem x_cols (c : Dev nD) (f : Blk F) : (xAt c Finset.univ f : sProp 𝕄)
    = iprop(xAt c (colSet (c2 c).val) f ∗ bigSep Finset.univ fun r : Fin 7 => xAt c (colSet (c2 (rowPeer c r)).val) f) :=
  split_along ((c : Thread nD τ).loc cc0_stg0_0) (colSet (c2 c).val) (fun r => colSet (c2 (rowPeer c r)).val) f
    (cols_cover _ (c2 c).isLt (c2_rowPeer c)) (e7 (c2 c).isLt (c2_rowPeer c)).1 (e7 (c2 c).isLt (c2_rowPeer c)).2
theorem s_cols (c : Dev nD) (f : Blk F) : (sAt c Finset.univ f : sProp 𝕄)
    = iprop(sAt c (colSet (c2 c).val) f ∗ bigSep Finset.univ fun r : Fin 7 => sAt c (colSet (c2 (rowPeer c r)).val) f) :=
  split_along ((c : Thread nD τ).loc cc0_scratch0) (colSet (c2 c).val) (fun r => colSet (c2 (rowPeer c r)).val) f
    (cols_cover _ (c2 c).isLt (c2_rowPeer c)) (e7 (c2 c).isLt (c2_rowPeer c)).1 (e7 (c2 c).isLt (c2_rowPeer c)).2
theorem s_rows (c : Dev nD) (f : Blk F) : (sAt c Finset.univ f : sProp 𝕄)
    = iprop(sAt c (rowSet (c1 c).val) f ∗ bigSep Finset.univ fun r : Fin 3 => sAt c (rowSet (c1 (colPeer c r)).val) f) :=
  split_along ((c : Thread nD τ).loc cc0_scratch0) (rowSet (c1 c).val) (fun r => rowSet (c1 (colPeer c r)).val) f
    (rows_cover _ (c1 c).isLt (c1_colPeer c)) (e3 (c1 c).isLt (c1_colPeer c)).1 (e3 (c1 c).isLt (c1_colPeer c)).2
theorem g_rows (c : Dev nD) (f : Blk F) : (gAt c Finset.univ f : sProp 𝕄)
    = iprop(gAt c (rowSet (c1 c).val) f ∗ bigSep Finset.univ fun r : Fin 3 => gAt c (rowSet (c1 (colPeer c r)).val) f) :=
  split_along ((c : Thread nD τ).loc cc0_scratch1) (rowSet (c1 c).val) (fun r => rowSet (c1 (colPeer c r)).val) f
    (rows_cover _ (c1 c).isLt (c1_colPeer c)) (e3 (c1 c).isLt (c1_colPeer c)).1 (e3 (c1 c).isLt (c1_colPeer c)).2

/-- The same with the steps counted backwards, as the arrivals come. -/
theorem s_cols_back (c : Dev nD) (f : Blk F) : (sAt c Finset.univ f : sProp 𝕄)
    = iprop(sAt c (colSet (c2 c).val) f ∗ bigSep Finset.univ fun r : Fin 7 => sAt c (colSet (c2 (rowPeer c r.rev)).val) f) := by
  rw [s_cols]
  exact congrArg _ (BI.bigSep_univ_equiv Fin.revPerm (fun r : Fin 7 => (sAt c (colSet (c2 (rowPeer c r)).val) f : sProp 𝕄)))
theorem g_rows_back (c : Dev nD) (f : Blk F) : (gAt c Finset.univ f : sProp 𝕄)
    = iprop(gAt c (rowSet (c1 c).val) f ∗ bigSep Finset.univ fun r : Fin 3 => gAt c (rowSet (c1 (colPeer c r.rev)).val) f) := by
  rw [g_rows]
  exact congrArg _ (BI.bigSep_univ_equiv Fin.revPerm (fun r : Fin 3 => (gAt c (rowSet (c1 (colPeer c r)).val) f : sProp 𝕄)))

/-! ## What the landings and the own stores leave -/

section Contents

variable (X : Dev nD → Blk F)

/-- Device `c`'s column lands on its peer of the row. -/
theorem S1_landed (c : Dev nD) (r : Fin 7) {i : S4x8x32x32.Idx} (hi : i ∈ colSet (c2 c).val) :
    X c (setCol i (c2 (rowPeer c r))) = S1 X (rowPeer c r) i := by
  unfold S1
  rw [c1_rowPeer, show i 1 = c2 c from Fin.ext (mem_colSet.mp hi), dev_c]
theorem S1_own (c : Dev nD) {i : S4x8x32x32.Idx} (hi : i ∈ colSet (c2 c).val) : X c i = S1 X c i := by
  unfold S1
  rw [show i 1 = c2 c from Fin.ext (mem_colSet.mp hi), dev_c, setCol_self (mem_colSet.mp hi)]
/-- Device `c`'s row lands on its peer of the column. -/
theorem G_landed (c : Dev nD) (r : Fin 3) {i : S4x8x32x32.Idx} (hi : i ∈ rowSet (c1 c).val) :
    S1 X c (setRow i (c1 (colPeer c r))) = G X (colPeer c r) i := by
  unfold G
  rw [c2_colPeer, show i 0 = c1 c from Fin.ext (mem_rowSet.mp hi), dev_c]
theorem G_own (c : Dev nD) {i : S4x8x32x32.Idx} (hi : i ∈ rowSet (c1 c).val) : S1 X c i = G X c i := by
  unfold G
  rw [show i 0 = c1 c from Fin.ext (mem_rowSet.mp hi), dev_c, setRow_self (mem_rowSet.mp hi)]

end Contents

end Cert.Gather

end
-- ==== Proof.Steps.lean ====
/-
The steps of the exchange, one lemma per kind of operation, each over a symbolic device and a symbolic step, and
with whatever follows it.
-/
module

public import proofs.«01_k».proof.Proof.Geometry

@[expose] public section

noncomputable section

namespace Cert.Gather

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## A family taken in order -/

/-- Of a family indexed by `Fin n`, the members below `k` in their second state and the rest in their first. -/
def stg {n : ℕ} (A B : Fin n → sProp 𝕄) (k : ℕ) : sProp 𝕄 := bigSep Finset.univ fun r => if r.val < k then B r else A r

theorem stg_start {n : ℕ} (A B : Fin n → sProp 𝕄) : stg A B 0 = bigSep Finset.univ A :=
  BI.bigSep_congr fun r _ => if_neg (Nat.not_lt_zero _)
theorem stg_end {n : ℕ} (A B : Fin n → sProp 𝕄) : stg A B n = bigSep Finset.univ B :=
  BI.bigSep_congr fun r _ => if_pos r.isLt
theorem stg_take {n : ℕ} (A B : Fin n → sProp 𝕄) (r : Fin n) : stg A B r.val ⊢ iprop(A r ∗ (B r -∗ stg A B (r.val + 1))) := by
  unfold stg
  rw [BI.bigSep_univ_split (Φ := fun q => if q.val < r.val then B q else A q) r, if_neg (lt_irrefl _)]
  show iprop(A r ∗ bigSep (Finset.univ.erase r) (fun q => if q.val < r.val then B q else A q)) ⊢ _
  iintro ⟨HA, HR⟩
  isplitl [HA]; · iexact HA
  iintro HB
  have hs : iprop(B r ∗ bigSep (Finset.univ.erase r) (fun q => if q.val < r.val + 1 then B q else A q))
      ⊢ bigSep Finset.univ (fun q : Fin n => if q.val < r.val + 1 then B q else A q) := by
    rw [BI.bigSep_univ_split (Φ := fun q => if q.val < r.val + 1 then B q else A q) r, if_pos (Nat.lt_succ_self _)]
    exact BI.Entails.refl _
  iapply hs
  isplitl [HB]; · iexact HB
  have h : bigSep (Finset.univ.erase r) (fun q => if q.val < r.val then B q else A q)
      = bigSep (Finset.univ.erase r) (fun q => if q.val < r.val + 1 then B q else A q) := BI.bigSep_congr fun q hq => by
    have hne : q.val ≠ r.val := fun h => (Finset.mem_erase.mp hq).1 (Fin.ext h)
    by_cases hlt : q.val < r.val
    · rw [if_pos hlt, if_pos (by omega)]
    · rw [if_neg hlt, if_neg (by omega)]
  iapply (Entails.of_eq h) $$ HR

variable (X : Dev nD → Blk F) (Wt : Dev nD → Wts F) (K : GSem nD τ sig → ℕ)

/-! ## What every step may use again and again -/

/-- Every cell's invariant; that every barrier's round is reached; the levels. -/
def invs : sProp 𝕄 := bigSep Finset.univ fun p : Dev nD × Option Sc => cellInv ER (Rd X Wt) (K (cell p.1 p.2)) (cell p.1 p.2)
def bars : sProp 𝕄 := bigSep Finset.univ fun p : Dev nD => reached ER (barCell p) 0
/-- That round 0 of a device's own transfer cells is reached. -/
def rchd (c : Dev nD) : sProp 𝕄 := bigSep Finset.univ fun s : Sc => reached ER (cell c (some s)) 0

instance invs_persistent : BI.Persistent (invs X Wt K) := by unfold invs; infer_instance
instance bars_persistent : BI.Persistent (bars : sProp 𝕄) := by unfold bars; infer_instance
instance rchd_persistent (c : Dev nD) : BI.Persistent (rchd c : sProp 𝕄) := by unfold rchd; infer_instance

theorem inv_at (c : Dev nD) (ch : Option Sc) : invs X Wt K ⊢ cellInv ER (Rd X Wt) (K (cell c ch)) (cell c ch) :=
  BI.bigSep_elim (Finset.mem_univ (c, ch))
theorem bar_at (c : Dev nD) : (bars : sProp 𝕄) ⊢ reached ER (barCell c) 0 := BI.bigSep_elim (Finset.mem_univ c)
theorem rchd_at (c : Dev nD) (s : Sc) : (rchd c : sProp 𝕄) ⊢ reached ER (cell c (some s)) 0 := BI.bigSep_elim (Finset.mem_univ s)

/-- The three and the levels. -/
def ctx (c : Dev nD) : sProp 𝕄 := iprop(invs X Wt K ∗ bars ∗ rchd c ∗ levAts L lv)
instance ctx_persistent (c : Dev nD) : BI.Persistent (ctx X Wt K c) := by unfold ctx; infer_instance

/-- What device `c` still owes, whatever it has waited for. -/
def own (c : Dev nD) (O : CellTallies nD τ sig Unit) : sProp 𝕄 := iprop(∃ W, owes (c : Thread nD τ) O W)

variable (c : Dev nD) {Q : PUnit.{1} → sProp (MT nD τ sig Unit (Elt F) ℕ UU ℕ)}

/-! ## The signals -/

theorem owed_row (r : Fin 7) : owed c r.val 0 0 0 = owed c (r.val + 1) 0 0 0 + oBar c (.inl r) := by
  unfold owed; rw [rem_step (fun r => oBar c (.inl r)) r, ← add_assoc]
theorem owed_col (r : Fin 3) : owed c 7 r.val 0 0 = owed c 7 (r.val + 1) 0 0 + oBar c (.inr r) := by
  unfold owed; rw [rem_step (fun r => oBar c (.inr r)) r]; ac_rfl
theorem owed_send_row (r : Fin 7) : owed c 7 3 r.val 0 = owed c 7 3 (r.val + 1) 0 + oRcv c (.inl r) := by
  unfold owed; rw [rem_step (fun r => oRcv c (.inl r)) r]; ac_rfl
theorem owed_send_col (r : Fin 3) : owed c 7 3 7 r.val = owed c 7 3 7 (r.val + 1) + oRcv c (.inr r) := by
  unfold owed; rw [rem_step (fun r => oRcv c (.inr r)) r]; ac_rfl

/-- What a signal along step `d` hands over: the part of the device's buffers its peer writes, and the right to pay. -/
def sigRes (d : D) : sProp 𝕄 := iprop((∃ f, slot c (peer c d) (back d) f) ∗ dutyTok ER (barCell (peer c d)) 0 (back d))

theorem signal (d : D) {q : Dev nD} (hq : q = peer c d) {O O' : CellTallies nD τ sig Unit} (hO : O = O' + oBar c d)
    {k : PUnit → Prog (TpuEff nD τ sig (Elt F) Λ₀ .tc) PUnit} :
    iprop(ctx X Wt K c ∗ sigRes c d ∗ own c O)
      ⊢ iprop((own c O' -∗ wp frame (wpE (defs₀ (F := F)) 𝒱₀ (c : Thread nD τ) none) Set.univ (k ⟨⟩) Q) -∗ wp frame (wpE (defs₀ (F := F)) 𝒱₀ (c : Thread nD τ) none) Set.univ (.op (.semSignal (Dev.tc q) barrier0 1) k) Q) := by
  subst hq
  unfold ctx sigRes own
  iintro ⟨⟨#HI, #Hb, #Hr, -⟩, ⟨Hs, Ht⟩, ⟨%W, HO⟩⟩ Hk
  iapply (Rounds.wp_signal 𝒱₀ ER (Rd X Wt) (c : Thread nD τ) none (dst := (peer c d : Thread nD τ)) (sem := barrier0) (r := 0) (d := back d)
      (κ := K (barCell (peer c d))) ((duties_bar X Wt (peer c d)).symm ▸ Finset.mem_univ (back d) : back d ∈ (Rd X Wt).duties (barCell (peer c d)) 0) (amount_bar X Wt (peer c d) (back d)) () O' hO)
    $$ [HO Ht Hs]
  · isplitr; · iapply (inv_at X Wt K (peer c d) none); iexact HI
    isplitl [HO]; · iexact HO
    isplitl [Ht]; · iexact Ht
    isplitl [Hs]
    · have hp : barPay (peer c d) (back d) ⊢ (Rd (F := F) X Wt).payload ((peer c d : Thread nD τ), .reg barrier0) 0 (back d) :=
        Entails.of_eq (payload_bar X Wt (peer c d) (back d)).symm
      iapply hp
      unfold barPay; rw [peer_back]
      isplitl [Hs]; · iexact Hs
      iapply (rchd_at c (rcv (back d))); iexact Hr
    · iapply (bar_at (peer c d)); iexact Hb
  iintro HO
  iapply Hk
  iexists W; iexact HO

/-! ## The sends -/

/-- A first-stage send: the column of the input for the peer, the column of the peer's buffer, the rights to pay. -/
def send1Res (r : Fin 7) : sProp 𝕄 :=
  iprop(xAt c (colSet (c2 (rowPeer c r)).val) (X c) ∗ barPay c (.inl r) ∗ dutyTok ER (sndCell c (.inl r)) 0 (.inl 0) ∗ dutyTok ER (rcvCell (rowPeer c r) (.inl r)) 0 (.inl 0))
def send2Res (r : Fin 3) : sProp 𝕄 :=
  iprop(sAt c (rowSet (c1 (colPeer c r)).val) (S1 X c) ∗ barPay c (.inr r) ∗ dutyTok ER (sndCell c (.inr r)) 0 (.inl 0) ∗ dutyTok ER (rcvCell (colPeer c r) (.inr r)) 0 (.inl 0))

theorem send1 (r : Fin 7) {q : Dev nD} (hq : q = rowPeer c r) {off off' : Fin 4 → ℕ} (ho : off = ![0, (c2 c).val, 0, 0])
    (ho' : off' = ![0, (c2 (rowPeer c r)).val, 0, 0]) {h h'} {sS sV : DmaSem sig} (hS : sS = dmaOf (snd (.inl r))) (hV : sV = dmaOf (rcv (.inl r)))
    {hsc} {hsrc hdst hsem} {k : PUnit → Prog (TpuEff nD τ sig (Elt F) Λ₀ .tc) PUnit} :
    iprop(ctx X Wt K c ∗ send1Res X c r ∗ own c (owed c 7 3 r.val 0))
      ⊢ iprop((iprop(cred (tallyAt (sndCell c (.inl r)) () N1) ∗ own c (owed c 7 3 (r.val + 1) 0)) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (colV xM off' h') (.remote (Dev.tc q : Thread nD τ) (colV sM off h) (.dma sS) hsc) (.dma sV) hsrc hdst hsem) k) Q) := by
  subst hq hS hV
  unfold ctx send1Res own barPay
  iintro ⟨⟨#HI, #Hb, #Hr, -⟩, ⟨Hx, ⟨⟨%fd, Hs⟩, #HrP⟩, HtS, HtV⟩, ⟨%W, HO⟩⟩ Hk
  have hset : (colV sM off h).view.set = colSet (c2 c).val := scol_set ho
  have hsl : (slot (peer c (.inl r)) c (.inl r) fd : sProp 𝕄)
      = ((colV sM off h).view.loc (rowPeer c r : Thread nD τ) ↦[(colV sM off h).view.set]{fullShare} fd) := by rw [hset]; rfl
  have hset' : (colV xM off' h').view.set = colSet (c2 (rowPeer c r)).val := xcol_set ho'
  iapply (Rounds.wp_send_pointsTo 𝒱₀ ER (Rd X Wt) (c : Thread nD τ) none (c' := (rowPeer c r : Thread nD τ)) (src := colV xM off' h') (dst := colV sM off h)
      (sS := .dma (dmaOf (snd (.inl r)))) (sem := .dma (dmaOf (rcv (.inl r)))) (q := fullShare) (fs := X c) (fd := fd)
      (κ₁ := K (sndCell c (.inl r))) (κ₂ := K (rcvCell (rowPeer c r) (.inl r)))
      (r₁ := 0) (r₂ := 0) (d₁ := .inl 0) (d₂ := .inl 0)
      (by rw [show ((c : Thread nD τ), SemLoc.dma (dmaOf (snd (.inl r)))) = cell c (some (snd (.inl r))) from rfl, duties_sc]; exact Finset.mem_singleton_self _)
      (by rw [show ((rowPeer c r : Thread nD τ), SemLoc.dma (dmaOf (rcv (.inl r)))) = cell (rowPeer c r) (some (rcv (.inl r))) from rfl, duties_sc]; exact Finset.mem_singleton_self _)
      () () N1 rfl (amount_sc X Wt c (snd (.inl r)) _) (amount_sc X Wt (rowPeer c r) (rcv (.inl r)) _) (owed c 7 3 (r.val + 1) 0) (owed_send_row c r) (W := W)
      (by
        rw [show ((c : Thread nD τ), SemLoc.dma (dmaOf (snd (.inl r)))) = cell c (some (snd (.inl r))) from rfl, payload_sc, hset']
        exact BI.Entails.refl _)
      (by
        rw [show ((rowPeer c r : Thread nD τ), SemLoc.dma (dmaOf (rcv (.inl r)))) = cell (rowPeer c r) (some (rcv (.inl r))) from rfl, payload_sc, hset]
        refine Entails.of_eq ?_
        show _ = (sAt (rowPeer c r) (colSet (c2 (peer (peer c (.inl r)) (back (.inl r)))).val) (S1 X (rowPeer c r)) : sProp 𝕄)
        rw [peer_back]
        exact pointsTo_congr fun i hi => (col_landed ho ho' fd (X c) hi).trans (S1_landed X c r hi))) $$ [Hx Hs HO HtS HtV]
  · isplitr; · iapply (inv_at X Wt K c (some (snd (.inl r)))); iexact HI
    isplitr; · iapply (inv_at X Wt K (rowPeer c r) (some (rcv (.inl r)))); iexact HI
    isplitl [Hx]; · rw [hset']; iexact Hx
    isplitl [Hs]; · iapply (Entails.of_eq hsl) $$ Hs
    isplitl [HO]; · iexact HO
    isplitl [HtS]; · iexact HtS
    isplitr; · iapply (rchd_at c (snd (.inl r))); iexact Hr
    isplitl [HtV]; · iexact HtV
    iexact HrP
  iintro ⟨HcS, HO⟩
  iapply Hk
  isplitl [HcS]; · iexact HcS
  iexists W; iexact HO

theorem send2 (r : Fin 3) {q : Dev nD} (hq : q = colPeer c r) {off off' : Fin 4 → ℕ} (ho : off = ![(c1 c).val, 0, 0, 0])
    (ho' : off' = ![(c1 (colPeer c r)).val, 0, 0, 0]) {h h'} {sS sV : DmaSem sig} (hS : sS = dmaOf (snd (.inr r))) (hV : sV = dmaOf (rcv (.inr r)))
    {hsc} {hsrc hdst hsem} {k : PUnit → Prog (TpuEff nD τ sig (Elt F) Λ₀ .tc) PUnit} :
    iprop(ctx X Wt K c ∗ send2Res X c r ∗ own c (owed c 7 3 7 r.val))
      ⊢ iprop((iprop(cred (tallyAt (sndCell c (.inr r)) () N2) ∗ own c (owed c 7 3 7 (r.val + 1))) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (rowV sM off' h') (.remote (Dev.tc q : Thread nD τ) (rowV gM off h) (.dma sS) hsc) (.dma sV) hsrc hdst hsem) k) Q) := by
  subst hq hS hV
  unfold ctx send2Res own barPay
  iintro ⟨⟨#HI, #Hb, #Hr, -⟩, ⟨Hx, ⟨⟨%fd, Hs⟩, #HrP⟩, HtS, HtV⟩, ⟨%W, HO⟩⟩ Hk
  have hset : (rowV gM off h).view.set = rowSet (c1 c).val := grow_set ho
  have hsl : (slot (peer c (.inr r)) c (.inr r) fd : sProp 𝕄)
      = ((rowV gM off h).view.loc (colPeer c r : Thread nD τ) ↦[(rowV gM off h).view.set]{fullShare} fd) := by rw [hset]; rfl
  have hset' : (rowV sM off' h').view.set = rowSet (c1 (colPeer c r)).val := srow_set ho'
  iapply (Rounds.wp_send_pointsTo 𝒱₀ ER (Rd X Wt) (c : Thread nD τ) none (c' := (colPeer c r : Thread nD τ)) (src := rowV sM off' h') (dst := rowV gM off h)
      (sS := .dma (dmaOf (snd (.inr r)))) (sem := .dma (dmaOf (rcv (.inr r)))) (q := fullShare) (fs := S1 X c) (fd := fd)
      (κ₁ := K (sndCell c (.inr r))) (κ₂ := K (rcvCell (colPeer c r) (.inr r)))
      (r₁ := 0) (r₂ := 0) (d₁ := .inl 0) (d₂ := .inl 0)
      (by rw [show ((c : Thread nD τ), SemLoc.dma (dmaOf (snd (.inr r)))) = cell c (some (snd (.inr r))) from rfl, duties_sc]; exact Finset.mem_singleton_self _)
      (by rw [show ((colPeer c r : Thread nD τ), SemLoc.dma (dmaOf (rcv (.inr r)))) = cell (colPeer c r) (some (rcv (.inr r))) from rfl, duties_sc]; exact Finset.mem_singleton_self _)
      () () N2 rfl (amount_sc X Wt c (snd (.inr r)) _) (amount_sc X Wt (colPeer c r) (rcv (.inr r)) _) (owed c 7 3 7 (r.val + 1)) (owed_send_col c r) (W := W)
      (by
        rw [show ((c : Thread nD τ), SemLoc.dma (dmaOf (snd (.inr r)))) = cell c (some (snd (.inr r))) from rfl, payload_sc, hset']
        exact BI.Entails.refl _)
      (by
        rw [show ((colPeer c r : Thread nD τ), SemLoc.dma (dmaOf (rcv (.inr r)))) = cell (colPeer c r) (some (rcv (.inr r))) from rfl, payload_sc, hset]
        refine Entails.of_eq ?_
        show _ = (gAt (colPeer c r) (rowSet (c1 (peer (peer c (.inr r)) (back (.inr r)))).val) (G X (colPeer c r)) : sProp 𝕄)
        rw [peer_back]
        exact pointsTo_congr fun i hi => (row_landed ho ho' fd (S1 X c) hi).trans (G_landed X c r hi))) $$ [Hx Hs HO HtS HtV]
  · isplitr; · iapply (inv_at X Wt K c (some (snd (.inr r)))); iexact HI
    isplitr; · iapply (inv_at X Wt K (colPeer c r) (some (rcv (.inr r)))); iexact HI
    isplitl [Hx]; · rw [hset']; iexact Hx
    isplitl [Hs]; · iapply (Entails.of_eq hsl) $$ Hs
    isplitl [HO]; · iexact HO
    isplitl [HtS]; · iexact HtS
    isplitr; · iapply (rchd_at c (snd (.inr r))); iexact Hr
    isplitl [HtV]; · iexact HtV
    iexact HrP
  iintro ⟨HcS, HO⟩
  iapply Hk
  isplitl [HcS]; · iexact HcS
  iexists W; iexact HO

/-- The copy of the weights into fast memory. -/
theorem copyW {s : DmaSem sig} (hs : s = dmaOf wgt) {fd : Wts F} {hsrc hdst hsem} {k : PUnit → Prog (TpuEff nD τ sig (Elt F) Λ₀ .tc) PUnit} :
    iprop(ctx X Wt K c ∗ hAt c (Wt c) ∗ wAt c fd ∗ dutyTok ER (wgtCell c) 0 (.inl 0))
      ⊢ iprop((cred (tallyAt (wgtCell c) () N3) -∗ wp frame (wpE (defs₀ (F := F)) 𝒱₀ (c : Thread nD τ) none) Set.univ (k ⟨⟩) Q) -∗ wp frame (wpE (defs₀ (F := F)) 𝒱₀ (c : Thread nD τ) none) Set.univ (.op (.enqueueDma hM (.here wM) (.dma s) hsrc hdst hsem) k) Q) := by
  subst hs
  unfold ctx
  iintro ⟨⟨#HI, -, #Hr, -⟩, Hh, Hw, Ht⟩ Hk
  have hw : (wM : Memref sig .tc .vmem S1024x1024 .f32).view.set = Finset.univ := View.set_whole _
  have hh : (hM : Memref sig .tc .hbm S1024x1024 .f32).view.set = Finset.univ := View.set_whole _
  iapply (Rounds.wp_copy_pointsTo 𝒱₀ ER (Rd X Wt) (c : Thread nD τ) none (src := hM) (dst := wM) (sem := .dma (dmaOf wgt)) (q := fullShare)
      (fs := Wt c) (fd := fd) (r := 0) (d := .inl 0) (κ := K (wgtCell c))
      (by rw [show ((c : Thread nD τ), SemLoc.dma (dmaOf wgt)) = cell c (some wgt) from rfl, duties_sc]; exact Finset.mem_singleton_self _)
      () N3 rfl (amount_sc X Wt c wgt _)
      (by
        rw [show ((c : Thread nD τ), SemLoc.dma (dmaOf wgt)) = cell c (some wgt) from rfl, payload_sc, hw, hh]
        show _ ⊢ iprop(wAt c (Wt c) ∗ hAt c (Wt c))
        refine Entails.of_eq ?_
        rw [show (wM : Memref sig .tc .vmem S1024x1024 .f32).view.write (Elt F) fd ((hM : Memref sig .tc .hbm S1024x1024 .f32).view.read (Elt F) (Wt c)) Finset.univ = Wt c from
          View.write_whole_univ _ _ _])) $$ [Hh Hw Ht]
  · isplitr; · iapply (inv_at X Wt K c (some wgt)); iexact HI
    isplitl [Hh]; · rw [hh]; iexact Hh
    isplitl [Hw]; · rw [hw]; iexact Hw
    isplitl [Ht]; · iexact Ht
    iapply (rchd_at c wgt); iexact Hr
  iexact Hk

/-! ## The waits -/

/-- The barrier: every peer has entered, and hands over what this device writes there. -/
theorem waitBar {k : PUnit → Prog (TpuEff nD τ sig (Elt F) Λ₀ .tc) PUnit} :
    iprop(ctx X Wt K c ∗ cred (tallyAt (barCell c) () 10) ∗ atPos ER (barCell c) 0 ∅ 0 ∗ own c (owed c 7 3 0 0))
      ⊢ iprop((iprop((bigSep Finset.univ fun d => barPay c d) ∗ atPos ER (barCell c) 1 ∅ 0 ∗ own c (owed c 7 3 0 0)) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barrier0 10) k) Q) := by
  unfold ctx own
  iintro ⟨⟨#HI, -, -, #Hl⟩, Hc, Ha, ⟨%W, HO⟩⟩ Hk
  iapply (Rounds.wp_wait_rest_token 𝒱₀ ER (Rd X Wt) (c : Thread nD τ) none (κ := K (barCell c))
      (wpE_semWait_eq 𝒱₀ (c : Thread nD τ) none Set.univ) (Set.mem_univ _) () (O := owed c 7 3 0 0) (W := W) (R := 0) (m := 0) (T := ∅)
      ((Nat.zero_add 10).trans (expect_bar X Wt c).symm)) $$ [Hc HO Ha]
  · isplitr; · iapply (inv_at X Wt K c none); iexact HI
    isplitl [Hc]; · iexact Hc
    isplitl [HO]; · iexact HO
    isplitr; · iapply (mayWait_bar c); iexact Hl
    iexact Ha
  iintro ⟨HO, Ha, -, Hp⟩
  ihave Hp := (show bigSep ((Rd X Wt).duties ((c : Thread nD τ), .reg barrier0) 0 \ ∅) (fun d => (Rd X Wt).payload ((c : Thread nD τ), .reg barrier0) 0 d)
    ⊢ bigSep Finset.univ (fun d => barPay (F := F) c d) from Entails.of_eq (rest_bar X Wt c)) $$ Hp
  iapply Hk
  isplitl [Hp]; · iexact Hp
  isplitl [Ha]; · iexact Ha
  iexists _; iexact HO

/-- A transfer's wait, on a device's own cell. -/
theorem waitSc (s : Sc) {sm : DmaSem sig} (hs : sm = dmaOf s) {O : CellTallies nD τ sig Unit}
    (hO : (levAts L lv : sProp 𝕄) ⊢ MayWait (c : Thread nD τ) (semOf (some s)) () O)
    {sp sp' : Space} {sh : Shape} {e e' : EltTy} {src : Memref sig .tc sp sh e} {sh' : Shape} {dst : Memref sig .tc sp' sh' e'}
    (hN : dst.view.dmaCredit = amt s) {h1 h2}
    {k : PUnit → Prog (TpuEff nD τ sig (Elt F) Λ₀ .tc) PUnit} :
    iprop(ctx X Wt K c ∗ cred (tallyAt (cell c (some s)) () (amt s)) ∗ atPos ER (cell c (some s)) 0 ∅ 0 ∗ own c O)
      ⊢ iprop((iprop(pay X Wt c s ∗ atPos ER (cell c (some s)) 1 ∅ 0 ∗ own c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst h1 h2) k) Q) := by
  subst hs
  unfold ctx own
  iintro ⟨⟨#HI, -, -, #Hl⟩, Hc, Ha, ⟨%W, HO⟩⟩ Hk
  rw [← hN]
  iapply (Rounds.wp_wait_rest_token 𝒱₀ ER (Rd X Wt) (c : Thread nD τ) none (κ := K (cell c (some s)))
      (wpE_waitDma2_eq (src := src) (dst := dst) 𝒱₀ (c : Thread nD τ) none Set.univ) (Set.mem_univ _) () (O := O) (W := W) (R := 0) (m := 0) (T := ∅)
      ((Nat.zero_add _).trans (hN.trans (expect_sc X Wt c s).symm))) $$ [Hc HO Ha]
  · isplitr; · iapply (inv_at X Wt K c (some s)); iexact HI
    isplitl [Hc]; · iexact Hc
    isplitl [HO]; · iexact HO
    isplitr; · iapply hO; iexact Hl
    iexact Ha
  iintro ⟨HO, Ha, -, Hp⟩
  ihave Hp := (show bigSep ((Rd X Wt).duties ((c : Thread nD τ), .dma (dmaOf s)) 0 \ ∅) (fun d => (Rd X Wt).payload ((c : Thread nD τ), .dma (dmaOf s)) 0 d)
    ⊢ pay X Wt c s from Entails.of_eq (rest_sc X Wt c s)) $$ Hp
  iapply Hk
  isplitl [Hp]; · iexact Hp
  isplitl [Ha]; · iexact Ha
  iexists _; iexact HO

end Cert.Gather

end
-- ==== Proof.Phases.lean ====
/-
The steps again, each taken out of a family of resources handled in order, and the passages between the phases of the
exchange.
-/
module

public import proofs.«01_k».proof.Proof.Steps

@[expose] public section

noncomputable section

namespace Cert.Gather

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A step on one member of a family, as a step on the family. -/
theorem staged {n : ℕ} {A B : Fin n → sProp 𝕄} (r : Fin n) {C O O' W1 W2 : sProp 𝕄}
    (h : iprop(C ∗ A r ∗ O) ⊢ iprop((iprop(B r ∗ O') -∗ W1) -∗ W2)) :
    iprop(C ∗ stg A B r.val ∗ O) ⊢ iprop((iprop(stg A B (r.val + 1) ∗ O') -∗ W1) -∗ W2) := by
  iintro ⟨HC, HS, HO⟩ Hk
  ihave HS := (stg_take A B r) $$ HS
  icases HS with ⟨HA, HB⟩
  iapply h $$ [HC HA HO]
  · isplitl [HC]; · iexact HC
    isplitl [HA]; · iexact HA
    iexact HO
  iintro ⟨HBr, HO⟩
  iapply Hk
  isplitl [HB HBr]; · iapply HB; iexact HBr
  iexact HO

variable (X : Dev nD → Blk F) (Wt : Dev nD → Wts F) (K : GSem nD τ sig → ℕ) (c : Dev nD)
variable {Q : PUnit.{1} → sProp (MT nD τ sig Unit (Elt F) ℕ UU ℕ)}

/-! ## The families -/

abbrev Sig1 (k : ℕ) : sProp 𝕄 := stg (fun r : Fin 7 => sigRes c (.inl r)) (fun _ => iprop(emp)) k
abbrev Sig2 (k : ℕ) : sProp 𝕄 := stg (fun r : Fin 3 => sigRes c (.inr r)) (fun _ => iprop(emp)) k
abbrev Snd1 (k : ℕ) : sProp 𝕄 := stg (fun r : Fin 7 => send1Res X c r) (fun r => cred (tallyAt (sndCell c (.inl r)) () N1)) k
abbrev Snd2 (k : ℕ) : sProp 𝕄 := stg (fun r : Fin 3 => send2Res X c r) (fun r => cred (tallyAt (sndCell c (.inr r)) () N2)) k
/-- Waiting for a family of transfer cells. -/
abbrev Wait {n : ℕ} (f : Fin n → Sc) (k : ℕ) : sProp 𝕄 :=
  stg (fun r => iprop(cred (tallyAt (cell c (some (f r))) () (amt (f r))) ∗ atPos ER (cell c (some (f r))) 0 ∅ 0))
    (fun r => iprop(pay X Wt c (f r) ∗ atPos ER (cell c (some (f r))) 1 ∅ 0)) k

theorem sig1 (r : Fin 7) {a : ℕ} (ha : r.val = a) {q : Dev nD} (hq : q = rowPeer c r)
    {k : PUnit → Prog (TpuEff nD τ sig (Elt F) Λ₀ .tc) PUnit} :
    iprop(ctx X Wt K c ∗ Sig1 c a ∗ own c (owed c a 0 0 0))
      ⊢ iprop((iprop(Sig1 c (a + 1) ∗ own c (owed c (a + 1) 0 0 0)) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc q) barrier0 1) k) Q) := by
  subst ha
  refine staged r ((signal X Wt K c (.inl r) hq (owed_row c r) (k := k) (Q := Q)).trans ?_)
  iintro Hs Hk
  iapply Hs
  iintro HO
  iapply Hk
  isplitr; · iempintro
  iexact HO

theorem sig2 (r : Fin 3) {a : ℕ} (ha : r.val = a) {q : Dev nD} (hq : q = colPeer c r)
    {k : PUnit → Prog (TpuEff nD τ sig (Elt F) Λ₀ .tc) PUnit} :
    iprop(ctx X Wt K c ∗ Sig2 c a ∗ own c (owed c 7 a 0 0))
      ⊢ iprop((iprop(Sig2 c (a + 1) ∗ own c (owed c 7 (a + 1) 0 0)) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc q) barrier0 1) k) Q) := by
  subst ha
  refine staged r ((signal X Wt K c (.inr r) hq (owed_col c r) (k := k) (Q := Q)).trans ?_)
  iintro Hs Hk
  iapply Hs
  iintro HO
  iapply Hk
  isplitr; · iempintro
  iexact HO

theorem snd1 (r : Fin 7) {a : ℕ} (ha : r.val = a) {q : Dev nD} (hq : q = rowPeer c r) {off off' : Fin 4 → ℕ} (ho : off = ![0, (c2 c).val, 0, 0])
    (ho' : off' = ![0, (c2 (rowPeer c r)).val, 0, 0]) {h h'} {sS sV : DmaSem sig} (hS : sS = dmaOf (snd (.inl r))) (hV : sV = dmaOf (rcv (.inl r)))
    {hsc} {hsrc hdst hsem} {k : PUnit → Prog (TpuEff nD τ sig (Elt F) Λ₀ .tc) PUnit} :
    iprop(ctx X Wt K c ∗ Snd1 X c a ∗ own c (owed c 7 3 a 0))
      ⊢ iprop((iprop(Snd1 X c (a + 1) ∗ own c (owed c 7 3 (a + 1) 0)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (colV xM off' h') (.remote (Dev.tc q : Thread nD τ) (colV sM off h) (.dma sS) hsc) (.dma sV) hsrc hdst hsem) k) Q) := by
  subst ha
  exact staged r (send1 X Wt K c r hq ho ho' hS hV)

theorem snd2 (r : Fin 3) {a : ℕ} (ha : r.val = a) {q : Dev nD} (hq : q = colPeer c r) {off off' : Fin 4 → ℕ} (ho : off = ![(c1 c).val, 0, 0, 0])
    (ho' : off' = ![(c1 (colPeer c r)).val, 0, 0, 0]) {h h'} {sS sV : DmaSem sig} (hS : sS = dmaOf (snd (.inr r))) (hV : sV = dmaOf (rcv (.inr r)))
    {hsc} {hsrc hdst hsem} {k : PUnit → Prog (TpuEff nD τ sig (Elt F) Λ₀ .tc) PUnit} :
    iprop(ctx X Wt K c ∗ Snd2 X c a ∗ own c (owed c 7 3 7 a))
      ⊢ iprop((iprop(Snd2 X c (a + 1) ∗ own c (owed c 7 3 7 (a + 1))) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (rowV sM off' h') (.remote (Dev.tc q : Thread nD τ) (rowV gM off h) (.dma sS) hsc) (.dma sV) hsrc hdst hsem) k) Q) := by
  subst ha
  exact staged r (send2 X Wt K c r hq ho ho' hS hV)

theorem wait {n : ℕ} (f : Fin n → Sc) (r : Fin n) {a : ℕ} (ha : r.val = a) {sm : DmaSem sig} (hs : sm = dmaOf (f r)) {O : CellTallies nD τ sig Unit}
    (hO : (levAts L lv : sProp 𝕄) ⊢ MayWait (c : Thread nD τ) (semOf (some (f r))) () O)
    {sp sp' : Space} {sh : Shape} {e e' : EltTy} {src : Memref sig .tc sp sh e} {sh' : Shape} {dst : Memref sig .tc sp' sh' e'}
    (hN : dst.view.dmaCredit = amt (f r)) {h1 h2}
    {k : PUnit → Prog (TpuEff nD τ sig (Elt F) Λ₀ .tc) PUnit} :
    iprop(ctx X Wt K c ∗ Wait X Wt c f a ∗ own c O)
      ⊢ iprop((iprop(Wait X Wt c f (a + 1) ∗ own c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst h1 h2) k) Q) := by
  subst ha
  refine staged r ?_
  iintro ⟨HC, ⟨Hc, Ha⟩, HO⟩ Hk
  iapply (waitSc X Wt K c (f r) hs hO hN) $$ [HC Hc Ha HO]
  · isplitl [HC]; · iexact HC
    isplitl [Hc]; · iexact Hc
    isplitl [Ha]; · iexact Ha
    iexact HO
  iintro ⟨Hp, Ha, HO⟩
  iapply Hk
  isplitl [Hp Ha]
  · isplitl [Hp]; · iexact Hp
    iexact Ha
  iexact HO

theorem creditCol (M : Memref sig .tc .vmem S4x8x32x32 .f32) {off h} : (colV M off h).view.dmaCredit = N1 := rfl
theorem waitCol {n : ℕ} (f : Fin n → Sc) (hf : ∀ r, amt (f r) = N1) (M : Memref sig .tc .vmem S4x8x32x32 .f32) (r : Fin n) {a : ℕ} (ha : r.val = a) {sm : DmaSem sig} (hs : sm = dmaOf (f r))
    {O : CellTallies nD τ sig Unit} (hO : (levAts L lv : sProp 𝕄) ⊢ MayWait (c : Thread nD τ) (semOf (some (f r))) () O)
    {src : Memref sig .tc .vmem S4x32x32 .f32} {off h} {h1 h2} {k : PUnit → Prog (TpuEff nD τ sig (Elt F) Λ₀ .tc) PUnit} :
    iprop(ctx X Wt K c ∗ Wait X Wt c f a ∗ own c O)
      ⊢ iprop((iprop(Wait X Wt c f (a + 1) ∗ own c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src (colV M off h) h1 h2) k) Q) :=
  wait X Wt K c f r ha hs hO ((creditCol M).trans (hf r).symm)

theorem creditRow (M : Memref sig .tc .vmem S4x8x32x32 .f32) {off h} : (rowV M off h).view.dmaCredit = N2 := rfl
theorem waitRow {n : ℕ} (f : Fin n → Sc) (hf : ∀ r, amt (f r) = N2) (M : Memref sig .tc .vmem S4x8x32x32 .f32) (r : Fin n) {a : ℕ} (ha : r.val = a) {sm : DmaSem sig} (hs : sm = dmaOf (f r))
    {O : CellTallies nD τ sig Unit} (hO : (levAts L lv : sProp 𝕄) ⊢ MayWait (c : Thread nD τ) (semOf (some (f r))) () O)
    {src : Memref sig .tc .vmem S8x32x32 .f32} {off h} {h1 h2} {k : PUnit → Prog (TpuEff nD τ sig (Elt F) Λ₀ .tc) PUnit} :
    iprop(ctx X Wt K c ∗ Wait X Wt c f a ∗ own c O)
      ⊢ iprop((iprop(Wait X Wt c f (a + 1) ∗ own c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src (rowV M off h) h1 h2) k) Q) :=
  wait X Wt K c f r ha hs hO ((creditRow M).trans (hf r).symm)

/-- Nothing is owed: any cell may be waited for. -/
theorem mayWait_done (s : SemLoc sig) : (levAts L lv : sProp 𝕄) ⊢ MayWait (c : Thread nD τ) s () (owed c 7 3 7 3) := by
  rw [owed_done, MayWait_zero]; iintro -; iempintro

/-! ## The own column and the own row -/

theorem ownCol {off off1 off2 : Fin 4 → ℕ} (ho : off = ![0, (c2 c).val, 0, 0]) (ho1 : off1 = off) (ho2 : off2 = off) {h h1 h2} {hl1 hl2 hx hm} {fd : Blk F}
    {k : PUnit → Prog (TpuEff nD τ sig (Elt F) Λ₀ .tc) PUnit} :
    iprop(xAt c (colSet (c2 c).val) (X c) ∗ sAt c (colSet (c2 c).val) fd)
      ⊢ iprop((iprop(xAt c (colSet (c2 c).val) (X c) ∗ sAt c (colSet (c2 c).val) (S1 X c))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load xM (colRect off1 h1).toLoadRect hl1) fun v => .op (.load sM (colRect off2 h2).toLoadRect hl2) fun _ =>
            .op (.store sM (colRect off h) (k0_pay2 v) Finset.univ hx hm) k) Q) := by
  subst ho1 ho2
  iintro ⟨Hx, Hs⟩ Hk
  have e1 : (xM.access (colRect off2 h1)).set = colSet (c2 c).val := (View.set_slice_whole cc0_stg0_0 _).trans (colRect_set ho)
  have e2 : (sM.access (colRect off2 h)).set = colSet (c2 c).val := (View.set_slice_whole cc0_scratch0 _).trans (colRect_set ho)
  iapply (wp_load_rect 𝒱₀ (c : Thread nD τ) none Set.univ (m := xM) (r := colRect off2 h1) (S := colSet (c2 c).val) (q := fullShare) (f := X c) (subset_of_eq e1)) $$ Hx
  iintro Hx
  iapply (wp_load_rect 𝒱₀ (c : Thread nD τ) none Set.univ (m := sM) (r := colRect off2 h) (S := colSet (c2 c).val) (q := fullShare) (f := fd) (subset_of_eq e2)) $$ Hs
  iintro Hs
  iapply (wp_store 𝒱₀ (c : Thread nD τ) none Set.univ (m := sM) (r := colRect off2 h) (Mk := Finset.univ) (S := colSet (c2 c).val) (f := fd) (subset_of_eq ((View.setOn_univ _).trans e2))) $$ Hs
  iintro Hs
  iapply Hk
  isplitl [Hx]; · iexact Hx
  have hc : ∀ i ∈ colSet (c2 c).val, ((sM.access (colRect off2 h)).write (Elt F) fd (k0_pay2 ((xM.access (colRect off2 h1)).read (Elt F) (X c))) Finset.univ) i = S1 X c i :=
    fun i hi => (col_stored ho rfl fd (X c) hi).trans (S1_own X c hi)
  have hfin : ((sM.access (colRect off2 h)).loc (c : Thread nD τ) ↦[colSet (c2 c).val]{fullShare} ((sM.access (colRect off2 h)).write (Elt F) fd (k0_pay2 ((xM.access (colRect off2 h1)).read (Elt F) (X c))) Finset.univ)) ⊢ (sAt c (colSet (c2 c).val) (S1 X c) : sProp 𝕄) :=
    Entails.of_eq (pointsTo_congr (ℓ := (c : Thread nD τ).loc cc0_scratch0) (q := fullShare) hc)
  iapply hfin $$ Hs

theorem ownRow {off off1 off2 : Fin 4 → ℕ} (ho : off = ![(c1 c).val, 0, 0, 0]) (ho1 : off1 = off) (ho2 : off2 = off) {h h1 h2} {hl1 hl2 hx hm} {fd : Blk F}
    {k : PUnit → Prog (TpuEff nD τ sig (Elt F) Λ₀ .tc) PUnit} :
    iprop(sAt c (rowSet (c1 c).val) (S1 X c) ∗ gAt c (rowSet (c1 c).val) fd)
      ⊢ iprop((iprop(sAt c (rowSet (c1 c).val) (S1 X c) ∗ gAt c (rowSet (c1 c).val) (G X c))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load sM (rowRect off1 h1).toLoadRect hl1) fun v => .op (.load gM (rowRect off2 h2).toLoadRect hl2) fun _ =>
            .op (.store gM (rowRect off h) (k0_pay3 v) Finset.univ hx hm) k) Q) := by
  subst ho1 ho2
  iintro ⟨Hx, Hs⟩ Hk
  have e1 : (sM.access (rowRect off2 h1)).set = rowSet (c1 c).val := (View.set_slice_whole cc0_scratch0 _).trans (rowRect_set ho)
  have e2 : (gM.access (rowRect off2 h)).set = rowSet (c1 c).val := (View.set_slice_whole cc0_scratch1 _).trans (rowRect_set ho)
  iapply (wp_load_rect 𝒱₀ (c : Thread nD τ) none Set.univ (m := sM) (r := rowRect off2 h1) (S := rowSet (c1 c).val) (q := fullShare) (f := S1 X c) (subset_of_eq e1)) $$ Hx
  iintro Hx
  iapply (wp_load_rect 𝒱₀ (c : Thread nD τ) none Set.univ (m := gM) (r := rowRect off2 h) (S := rowSet (c1 c).val) (q := fullShare) (f := fd) (subset_of_eq e2)) $$ Hs
  iintro Hs
  iapply (wp_store 𝒱₀ (c : Thread nD τ) none Set.univ (m := gM) (r := rowRect off2 h) (Mk := Finset.univ) (S := rowSet (c1 c).val) (f := fd) (subset_of_eq ((View.setOn_univ _).trans e2))) $$ Hs
  iintro Hs
  iapply Hk
  isplitl [Hx]; · iexact Hx
  have hc : ∀ i ∈ rowSet (c1 c).val, ((gM.access (rowRect off2 h)).write (Elt F) fd (k0_pay3 ((sM.access (rowRect off2 h1)).read (Elt F) (S1 X c))) Finset.univ) i = G X c i :=
    fun i hi => (row_stored ho rfl fd (S1 X c) hi).trans (G_own X c hi)
  have hfin : ((gM.access (rowRect off2 h)).loc (c : Thread nD τ) ↦[rowSet (c1 c).val]{fullShare} ((gM.access (rowRect off2 h)).write (Elt F) fd (k0_pay3 ((sM.access (rowRect off2 h1)).read (Elt F) (S1 X c))) Finset.univ)) ⊢ (gAt c (rowSet (c1 c).val) (G X c) : sProp 𝕄) :=
    Entails.of_eq (pointsTo_congr (ℓ := (c : Thread nD τ).loc cc0_scratch1) (q := fullShare) hc)
  iapply hfin $$ Hs

/-! ## Between the phases -/

theorem sep4 {n : ℕ} (A B C D' : Fin n → sProp 𝕄) :
    iprop((bigSep Finset.univ A) ∗ (bigSep Finset.univ B) ∗ (bigSep Finset.univ C) ∗ (bigSep Finset.univ D'))
      ⊢ bigSep Finset.univ fun r => iprop(A r ∗ B r ∗ C r ∗ D' r) := by
  rw [bigSep_sep', bigSep_sep', bigSep_sep']

theorem sep2 {n : ℕ} (A B : Fin n → sProp 𝕄) :
    iprop((bigSep Finset.univ A) ∗ (bigSep Finset.univ B)) ⊢ bigSep Finset.univ fun r => iprop(A r ∗ B r) := by
  rw [bigSep_sep']

/-- Before the row's signals: the own column of the first-stage buffer is kept, the others are to be handed over. -/
theorem enter_rows {f : Blk F} : iprop(sAt c Finset.univ f ∗ bigSep Finset.univ fun r : Fin 7 => dutyTok ER (barCell (peer c (.inl r))) 0 (back (.inl r)))
    ⊢ (iprop(sAt c (colSet (c2 c).val) f ∗ Sig1 c 0) : sProp 𝕄) := by
  rw [s_cols, Sig1, stg_start]
  iintro ⟨⟨Ho, Hs⟩, Ht⟩
  isplitl [Ho]; · iexact Ho
  have hm : iprop((bigSep Finset.univ fun r : Fin 7 => sAt c (colSet (c2 (rowPeer c r)).val) f) ∗ bigSep Finset.univ fun r : Fin 7 => dutyTok ER (barCell (peer c (.inl r))) 0 (back (.inl r)))
      ⊢ (bigSep Finset.univ fun r : Fin 7 => sigRes c (.inl r) : sProp 𝕄) := by
    have h1 : ∀ r, iprop(sAt c (colSet (c2 (rowPeer c r)).val) f ∗ dutyTok ER (barCell (peer c (.inl r))) 0 (back (.inl r))) ⊢ (sigRes c (.inl r) : sProp 𝕄) := by
      intro r
      have hsl : (sAt c (colSet (c2 (rowPeer c r)).val) f : sProp 𝕄) = slot c (peer c (.inl r)) (back (.inl r)) f := rfl
      unfold sigRes
      iintro ⟨Hs, Ht⟩
      isplitl [Hs]; · iexists f; iapply (Entails.of_eq hsl) $$ Hs
      iexact Ht
    exact (sep2 _ _).trans (BI.bigSep_mono fun r _ => h1 r)
  iapply hm $$ [Hs Ht]
  isplitl [Hs]; · iexact Hs
  iexact Ht
theorem enter_cols {f : Blk F} : iprop(gAt c Finset.univ f ∗ bigSep Finset.univ fun r : Fin 3 => dutyTok ER (barCell (peer c (.inr r))) 0 (back (.inr r)))
    ⊢ (iprop(gAt c (rowSet (c1 c).val) f ∗ Sig2 c 0) : sProp 𝕄) := by
  rw [g_rows, Sig2, stg_start]
  iintro ⟨⟨Ho, Hs⟩, Ht⟩
  isplitl [Ho]; · iexact Ho
  have hm : iprop((bigSep Finset.univ fun r : Fin 3 => gAt c (rowSet (c1 (colPeer c r)).val) f) ∗ bigSep Finset.univ fun r : Fin 3 => dutyTok ER (barCell (peer c (.inr r))) 0 (back (.inr r)))
      ⊢ (bigSep Finset.univ fun r : Fin 3 => sigRes c (.inr r) : sProp 𝕄) := by
    have h1 : ∀ r, iprop(gAt c (rowSet (c1 (colPeer c r)).val) f ∗ dutyTok ER (barCell (peer c (.inr r))) 0 (back (.inr r))) ⊢ (sigRes c (.inr r) : sProp 𝕄) := by
      intro r
      have hsl : (gAt c (rowSet (c1 (colPeer c r)).val) f : sProp 𝕄) = slot c (peer c (.inr r)) (back (.inr r)) f := rfl
      unfold sigRes
      iintro ⟨Hs, Ht⟩
      isplitl [Hs]; · iexists f; iapply (Entails.of_eq hsl) $$ Hs
      iexact Ht
    exact (sep2 _ _).trans (BI.bigSep_mono fun r _ => h1 r)
  iapply hm $$ [Hs Ht]
  isplitl [Hs]; · iexact Hs
  iexact Ht
/-- Before the first stage's sends. -/
theorem enter_send1 : iprop(xAt c Finset.univ (X c) ∗ (bigSep Finset.univ fun r : Fin 7 => barPay c (.inl r))
      ∗ (bigSep Finset.univ fun r : Fin 7 => dutyTok ER (sndCell c (.inl r)) 0 (.inl 0))
      ∗ bigSep Finset.univ fun r : Fin 7 => dutyTok ER (rcvCell (peer c (.inl r)) (.inl r)) 0 (.inl 0))
    ⊢ (iprop(xAt c (colSet (c2 c).val) (X c) ∗ Snd1 X c 0) : sProp 𝕄) := by
  rw [x_cols, Snd1, stg_start]
  iintro ⟨⟨Ho, Hx⟩, Hb, Hs, Hv⟩
  isplitl [Ho]; · iexact Ho
  iapply (sep4 _ _ _ _) $$ [Hx Hb Hs Hv]
  isplitl [Hx]; · iexact Hx
  isplitl [Hb]; · iexact Hb
  isplitl [Hs]; · iexact Hs
  iexact Hv
/-- Before the second stage's sends: the first-stage buffer is complete, and is handled by rows. -/
theorem enter_send2 : iprop(sAt c (colSet (c2 c).val) (S1 X c) ∗ (bigSep Finset.univ fun r : Fin 7 => rcvPay X c (.inl r))
      ∗ (bigSep Finset.univ fun r : Fin 3 => barPay c (.inr r))
      ∗ (bigSep Finset.univ fun r : Fin 3 => dutyTok ER (sndCell c (.inr r)) 0 (.inl 0))
      ∗ bigSep Finset.univ fun r : Fin 3 => dutyTok ER (rcvCell (peer c (.inr r)) (.inr r)) 0 (.inl 0))
    ⊢ (iprop(sAt c (rowSet (c1 c).val) (S1 X c) ∗ Snd2 X c 0) : sProp 𝕄) := by
  rw [Snd2, stg_start]
  iintro ⟨Ho, Hp, Hb, Hs, Hv⟩
  have hj : iprop(sAt c (colSet (c2 c).val) (S1 X c) ∗ (bigSep Finset.univ fun r : Fin 7 => rcvPay X c (.inl r)))
      ⊢ (iprop(sAt c (rowSet (c1 c).val) (S1 X c) ∗ bigSep Finset.univ fun r : Fin 3 => sAt c (rowSet (c1 (colPeer c r)).val) (S1 X c)) : sProp 𝕄) := by
    rw [← s_rows, s_cols_back]; exact BI.Entails.refl _
  ihave H := hj $$ [Ho Hp]
  · isplitl [Ho]; · iexact Ho
    iexact Hp
  icases H with ⟨Ho, Hx⟩
  isplitl [Ho]; · iexact Ho
  iapply (sep4 _ _ _ _) $$ [Hx Hb Hs Hv]
  isplitl [Hx]; · iexact Hx
  isplitl [Hb]; · iexact Hb
  isplitl [Hs]; · iexact Hs
  iexact Hv

/-- Before and after a family of waits. -/
theorem enter_wait {n : ℕ} (f : Fin n → Sc) :
    iprop((bigSep Finset.univ fun r => cred (tallyAt (cell c (some (f r))) () (amt (f r)))) ∗ bigSep Finset.univ fun r => atPos ER (cell c (some (f r))) 0 ∅ 0)
      ⊢ (Wait X Wt c f 0 : sProp 𝕄) := by
  rw [Wait, stg_start]; exact sep2 _ _
theorem leave_wait {n : ℕ} (f : Fin n → Sc) : Wait X Wt c f n
    ⊢ (iprop((bigSep Finset.univ fun r => pay X Wt c (f r)) ∗ bigSep Finset.univ fun r => atPos ER (cell c (some (f r))) 1 ∅ 0) : sProp 𝕄) := by
  rw [Wait, stg_end, bigSep_sep']

/-- The second-stage buffer, complete. -/
theorem join_g : iprop(gAt c (rowSet (c1 c).val) (G X c) ∗ (bigSep Finset.univ fun r : Fin 3 => rcvPay X c (.inr r))) ⊢ (gAt c Finset.univ (G X c) : sProp 𝕄) := by
  rw [g_rows_back]; exact BI.Entails.refl _
/-- The input block and the first-stage buffer, back whole. -/
theorem join_x : iprop(xAt c (colSet (c2 c).val) (X c) ∗ (bigSep Finset.univ fun r : Fin 7 => sndPay X c (.inl r))) ⊢ (xAt c Finset.univ (X c) : sProp 𝕄) := by
  rw [x_cols]; exact BI.Entails.refl _
theorem join_s : iprop(sAt c (rowSet (c1 c).val) (S1 X c) ∗ (bigSep Finset.univ fun r : Fin 3 => sndPay X c (.inr r))) ⊢ (sAt c Finset.univ (S1 X c) : sProp 𝕄) := by
  rw [s_rows]; exact BI.Entails.refl _

end Cert.Gather

end
-- ==== Proof.Body.lean ====
/-
The body of the kernel, run on any one device: the signals to the row and to the column, the exchange along the row,
the exchange along the column, and the product with the weights.
-/
module

public import proofs.«01_k».proof.Proof.Phases

@[expose] public section

noncomputable section

namespace Cert.Gather

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (Wt : Dev nD → Wts F) (K : GSem nD τ sig → ℕ) (c : Dev nD)

/-! ## Devices, rows and columns by name -/

theorem one_toInt : (1#32 : BitVec 32).toInt = 1 := by decide
theorem ten_toInt : (10#32 : BitVec 32).toInt = 10 := by decide
theorem barrier_sem : (SemArray.scalar (sig.barrier 0 rfl) : Sems sig S_).sem = barrier0 := rfl
theorem devn1 : (⟨k0_dev1 c, k0_dev1_lt c⟩ : Dev nD) = rowPeer c 0 := Fin.ext ((k0_dev1_eq c).trans rfl)
theorem devn2 : (⟨k0_dev2 c, k0_dev2_lt c⟩ : Dev nD) = rowPeer c 1 := Fin.ext ((k0_dev2_eq c).trans rfl)
theorem devn3 : (⟨k0_dev3 c, k0_dev3_lt c⟩ : Dev nD) = rowPeer c 2 := Fin.ext ((k0_dev3_eq c).trans rfl)
theorem devn4 : (⟨k0_dev4 c, k0_dev4_lt c⟩ : Dev nD) = rowPeer c 3 := Fin.ext ((k0_dev4_eq c).trans rfl)
theorem devn5 : (⟨k0_dev5 c, k0_dev5_lt c⟩ : Dev nD) = rowPeer c 4 := Fin.ext ((k0_dev5_eq c).trans rfl)
theorem devn6 : (⟨k0_dev6 c, k0_dev6_lt c⟩ : Dev nD) = rowPeer c 5 := Fin.ext ((k0_dev6_eq c).trans rfl)
theorem devn7 : (⟨k0_dev7 c, k0_dev7_lt c⟩ : Dev nD) = rowPeer c 6 := Fin.ext ((k0_dev7_eq c).trans rfl)
theorem devn11 : (⟨k0_dev11 c, k0_dev11_lt c⟩ : Dev nD) = rowPeer c 0 := Fin.ext ((k0_dev11_eq c).trans rfl)
theorem devn12 : (⟨k0_dev12 c, k0_dev12_lt c⟩ : Dev nD) = rowPeer c 1 := Fin.ext ((k0_dev12_eq c).trans rfl)
theorem devn13 : (⟨k0_dev13 c, k0_dev13_lt c⟩ : Dev nD) = rowPeer c 2 := Fin.ext ((k0_dev13_eq c).trans rfl)
theorem devn14 : (⟨k0_dev14 c, k0_dev14_lt c⟩ : Dev nD) = rowPeer c 3 := Fin.ext ((k0_dev14_eq c).trans rfl)
theorem devn15 : (⟨k0_dev15 c, k0_dev15_lt c⟩ : Dev nD) = rowPeer c 4 := Fin.ext ((k0_dev15_eq c).trans rfl)
theorem devn16 : (⟨k0_dev16 c, k0_dev16_lt c⟩ : Dev nD) = rowPeer c 5 := Fin.ext ((k0_dev16_eq c).trans rfl)
theorem devn17 : (⟨k0_dev17 c, k0_dev17_lt c⟩ : Dev nD) = rowPeer c 6 := Fin.ext ((k0_dev17_eq c).trans rfl)
theorem devn8 : (⟨k0_dev8 c, k0_dev8_lt c⟩ : Dev nD) = colPeer c 0 := Fin.ext ((k0_dev8_eq c).trans rfl)
theorem devn9 : (⟨k0_dev9 c, k0_dev9_lt c⟩ : Dev nD) = colPeer c 1 := Fin.ext ((k0_dev9_eq c).trans rfl)
theorem devn10 : (⟨k0_dev10 c, k0_dev10_lt c⟩ : Dev nD) = colPeer c 2 := Fin.ext ((k0_dev10_eq c).trans rfl)
theorem devn18 : (⟨k0_dev18 c, k0_dev18_lt c⟩ : Dev nD) = colPeer c 0 := Fin.ext ((k0_dev18_eq c).trans rfl)
theorem devn19 : (⟨k0_dev19 c, k0_dev19_lt c⟩ : Dev nD) = colPeer c 1 := Fin.ext ((k0_dev19_eq c).trans rfl)
theorem devn20 : (⟨k0_dev20 c, k0_dev20_lt c⟩ : Dev nD) = colPeer c 2 := Fin.ext ((k0_dev20_eq c).trans rfl)
theorem off2 (r : Fin 7) : k0_off2 c (BitVec.ofNat 32 (1 + r.val)) = ![0, (c2 (rowPeer c r)).val, 0, 0] := by
  rw [k0_off2_eq, c2_rowPeer]; rfl
theorem off6 (r : Fin 3) : k0_off6 c (BitVec.ofNat 32 (1 + r.val)) = ![(c1 (colPeer c r)).val, 0, 0, 0] := by
  rw [k0_off6_eq, c1_colPeer]; rfl

/-! ## What the body starts from and what it leaves -/

abbrev oAt (c : Dev nD) (f : S32x1024.Idx → Elt F .f32) : sProp 𝕄 := ((c : Thread nD τ).loc cc0_stg1_0) ↦{fullShare} f

/-- The tokens of the duties a device pays. -/
def toks : sProp 𝕄 :=
  iprop((bigSep Finset.univ fun d : D => dutyTok ER (barCell (peer c d)) 0 (back d))
    ∗ (bigSep Finset.univ fun d : D => dutyTok ER (rcvCell (peer c d) d) 0 (.inl 0))
    ∗ (bigSep Finset.univ fun d : D => dutyTok ER (sndCell c d) 0 (.inl 0))
    ∗ dutyTok ER (wgtCell c) 0 (.inl 0))
/-- The credit a device waits with for what the others send it. -/
def creds : sProp 𝕄 :=
  iprop(cred (tallyAt (barCell c) () 10) ∗ bigSep Finset.univ fun d : D => cred (tallyAt (rcvCell c d) () (amtD d)))
/-- What the device computes. -/
def res : S32x1024.Idx → Elt F .f32 := k0_pay1 (k0_pay4 (G X c) (Wt c))

def bodyPre : sProp 𝕄 :=
  iprop(ctx X Wt K c ∗ atPos ER (barCell c) 0 ∅ 0 ∗ (bigSep Finset.univ fun s : Sc => atPos ER (cell c (some s)) 0 ∅ 0)
    ∗ toks c ∗ creds c ∗ xAt c Finset.univ (X c) ∗ (∃ f, sAt c Finset.univ f) ∗ (∃ f, gAt c Finset.univ f) ∗ (∃ f, wAt c f) ∗ hAt c (Wt c)
    ∗ (∃ f, oAt c f) ∗ own c (O₀ c))
def bodyPost : sProp 𝕄 :=
  iprop(semVal (barCell c) 0 ∗ (bigSep Finset.univ fun s : Sc => semVal (cell c (some s)) 0)
    ∗ xAt c Finset.univ (X c) ∗ (∃ f, sAt c Finset.univ f) ∗ (∃ f, gAt c Finset.univ f) ∗ (∃ f, wAt c f) ∗ hAt c (Wt c)
    ∗ oAt c (res X Wt c) ∗ own c 0)

theorem univ_D (Φ : D → sProp 𝕄) : bigSep Finset.univ Φ = iprop((bigSep Finset.univ fun r : Fin 7 => Φ (.inl r)) ∗ bigSep Finset.univ fun r : Fin 3 => Φ (.inr r)) :=
  BI.bigSep_univ_sum Φ
theorem univ_Sc (Φ : Sc → sProp 𝕄) : bigSep Finset.univ Φ
    = iprop((bigSep Finset.univ fun d : D => Φ (snd d)) ∗ (bigSep Finset.univ fun d : D => Φ (rcv d)) ∗ Φ wgt) := by
  have h1 : bigSep Finset.univ (fun e : D ⊕ Unit => Φ (.inr e)) = iprop((bigSep Finset.univ fun d : D => Φ (rcv d)) ∗ Φ wgt) := by
    rw [BI.bigSep_univ_sum, show (Finset.univ : Finset Unit) = {()} from rfl, BI.bigSep_singleton]
    rfl
  exact (BI.bigSep_univ_sum Φ).trans (congrArg (fun P => iprop((bigSep Finset.univ fun d : D => Φ (snd d)) ∗ P)) h1)

theorem close_bar : iprop(invs X Wt K ∗ atPos ER (barCell c) 1 ∅ 0) ⊢ (|={Set.univ}=> semVal (barCell c) 0 : sProp 𝕄) := by
  iintro ⟨#HI, Ha⟩
  iapply (Rounds.cell_close ER (Rd X Wt) (g := barCell c) (R := 1) (κ := K (barCell c)) (Set.mem_univ _) id (duties_later X Wt (barCell c)))
  isplitr; · iapply (inv_at X Wt K c none); iexact HI
  iexact Ha
theorem close_sc : iprop(invs X Wt K ∗ bigSep Finset.univ fun s : Sc => atPos ER (cell c (some s)) 1 ∅ 0)
    ⊢ (|={Set.univ}=> bigSep Finset.univ fun s : Sc => semVal (cell c (some s)) 0 : sProp 𝕄) := by
  refine BIBase.Entails.trans ?_ (bigSep_fupd _ _)
  refine bigSep_with_persistent (R := invs X Wt K) fun s _ => ?_
  iintro ⟨#HI, Ha⟩
  iapply (Rounds.cell_close ER (Rd X Wt) (g := cell c (some s)) (R := 1) (κ := K (cell c (some s))) (Set.mem_univ _) id (duties_later X Wt (cell c (some s))))
  isplitr; · iapply (inv_at X Wt K c (some s)); iexact HI
  iexact Ha

/-- What the last store leaves: the result, whole. -/
theorem out_final (fo : S32x1024.Idx → Elt F .f32) :
    (((oM.access (Rect.unit (s := S32x1024) ![0, 0] S32x1024.size inb_S32x1024_S32x1024_0_0)).loc (c : Thread nD τ)) ↦{fullShare}
      ((oM.access (Rect.unit (s := S32x1024) ![0, 0] S32x1024.size inb_S32x1024_S32x1024_0_0)).write (Elt F) fo
        (k0_pay1 (k0_pay4
          (gM.view.readAt (Elt F) (Rect.unit (s := S4x8x32x32) ![0, 0, 0, 0] S4x8x32x32.size inb_S4x8x32x32_S4x8x32x32_0_0_0_0).toLoadRect (G X c))
          (wM.view.readAt (Elt F) (Rect.unit (s := S1024x1024) ![0, 0] S1024x1024.size inb_S1024x1024_S1024x1024_0_0).toLoadRect (Wt c)))) Finset.univ))
      ⊢ (oAt c (res X Wt c) : sProp 𝕄) := by
  have hg : gM.view.readAt (Elt F) (Rect.unit (s := S4x8x32x32) ![0, 0, 0, 0] S4x8x32x32.size inb_S4x8x32x32_S4x8x32x32_0_0_0_0).toLoadRect (G X c) = G X c :=
    Memref.readAt_unit_zero (Elt F) cc0_scratch1 (by decide) _ _
  have hw : wM.view.readAt (Elt F) (Rect.unit (s := S1024x1024) ![0, 0] S1024x1024.size inb_S1024x1024_S1024x1024_0_0).toLoadRect (Wt c) = Wt c :=
    Memref.readAt_unit_zero (Elt F) cc0_scratch2 (by decide) _ _
  rw [hg, hw]
  exact Entails.of_eq (congrArg (fun f => (oAt c f : sProp 𝕄)) (Memref.write_access_unit_zero_univ (Elt F) cc0_stg1_0 (by decide) _ fo (res X Wt c)))

variable {X Wt K c}
variable {Q : PUnit.{1} → sProp (MT nD τ sig Unit (Elt F) ℕ UU ℕ)}

set_option maxHeartbeats 1600000 in
theorem body_run (Q : PUnit.{1} → sProp (MT nD τ sig Unit (Elt F) ℕ UU ℕ)) :
    iprop(bodyPre X Wt K c ∗ (bodyPost X Wt c -∗ Q ⟨⟩))
      ⊢ wp frame (wpE (defs₀ (F := F)) 𝒱₀ (c : Thread nD τ) none) Set.univ
          (cc0_body (Memref.whole cc0_stg0_0) (Memref.isWhole_whole _) (Memref.whole main_arg1) (Memref.isWhole_whole _)
            (Memref.whole cc0_stg1_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7) Q := by
  simp only [cc0_body_eq_skeleton]; unfold cc0_body_skel
  simp only [k0_part15_eq_skeleton]; unfold k0_part15_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel
  simp only [semSignalWord, semWaitWord, Prog.lift, Prog.bind_op, Prog.bind_ret, Prog.pure_eq_ret, Prog.bind_assoc, wp_deviceId]
  simp only [one_toInt, ten_toInt, barrier_sem]
  unfold bodyPre toks creds
  rw [univ_Sc, univ_D, univ_D, univ_D, univ_D, univ_D, univ_D]
  iintro ⟨⟨#HC, HaB, ⟨⟨HaS1, HaS2⟩, ⟨HaV1, HaV2⟩, HaW⟩, ⟨⟨HtB1, HtB2⟩, ⟨HtV1, HtV2⟩, ⟨HtS1, HtS2⟩, HtW⟩, ⟨HcB, HcV1, HcV2⟩, Hx, ⟨%fs, Hs⟩, ⟨%fg, Hg⟩, ⟨%fw, Hw⟩, Hh, ⟨%fo, Ho⟩, HO⟩, Hk⟩
  -- the signals along the row, then along the column
  ihave H := (enter_rows c) $$ [Hs HtB1]
  · isplitl [Hs]; · iexact Hs
    iexact HtB1
  icases H with ⟨Hs, HF⟩
  ihave HO := (Entails.of_eq (show own c (O₀ c) = (own c (owed c 0 0 0 0) : sProp 𝕄) from rfl)) $$ HO
  iapply (sig1 X Wt K c 0 (a := 0) rfl (devn1 c)) $$ [HF HO]
  · isplitr; · iexact HC
    isplitl [HF]; · iexact HF
    iexact HO
  iintro ⟨HF, HO⟩
  iapply (sig1 X Wt K c 1 (a := 1) rfl (devn2 c)) $$ [HF HO]
  · isplitr; · iexact HC
    isplitl [HF]; · iexact HF
    iexact HO
  iintro ⟨HF, HO⟩
  iapply (sig1 X Wt K c 2 (a := 2) rfl (devn3 c)) $$ [HF HO]
  · isplitr; · iexact HC
    isplitl [HF]; · iexact HF
    iexact HO
  iintro ⟨HF, HO⟩
  iapply (sig1 X Wt K c 3 (a := 3) rfl (devn4 c)) $$ [HF HO]
  · isplitr; · iexact HC
    isplitl [HF]; · iexact HF
    iexact HO
  iintro ⟨HF, HO⟩
  iapply (sig1 X Wt K c 4 (a := 4) rfl (devn5 c)) $$ [HF HO]
  · isplitr; · iexact HC
    isplitl [HF]; · iexact HF
    iexact HO
  iintro ⟨HF, HO⟩
  iapply (sig1 X Wt K c 5 (a := 5) rfl (devn6 c)) $$ [HF HO]
  · isplitr; · iexact HC
    isplitl [HF]; · iexact HF
    iexact HO
  iintro ⟨HF, HO⟩
  iapply (sig1 X Wt K c 6 (a := 6) rfl (devn7 c)) $$ [HF HO]
  · isplitr; · iexact HC
    isplitl [HF]; · iexact HF
    iexact HO
  iintro ⟨HF, HO⟩
  iclear HF
  ihave H := (enter_cols c) $$ [Hg HtB2]
  · isplitl [Hg]; · iexact Hg
    iexact HtB2
  icases H with ⟨Hg, HF⟩
  iapply (sig2 X Wt K c 0 (a := 0) rfl (devn8 c)) $$ [HF HO]
  · isplitr; · iexact HC
    isplitl [HF]; · iexact HF
    iexact HO
  iintro ⟨HF, HO⟩
  iapply (sig2 X Wt K c 1 (a := 1) rfl (devn9 c)) $$ [HF HO]
  · isplitr; · iexact HC
    isplitl [HF]; · iexact HF
    iexact HO
  iintro ⟨HF, HO⟩
  iapply (sig2 X Wt K c 2 (a := 2) rfl (devn10 c)) $$ [HF HO]
  · isplitr; · iexact HC
    isplitl [HF]; · iexact HF
    iexact HO
  iintro ⟨HF, HO⟩
  iclear HF
  -- the weights begin to move, and everyone is waited for
  iapply (copyW X Wt K c (s := dmaOf wgt) rfl) $$ [Hh Hw HtW]
  · isplitr; · iexact HC
    isplitl [Hh]; · iexact Hh
    isplitl [Hw]; · iexact Hw
    iexact HtW
  iintro HcW
  iapply (waitBar X Wt K c) $$ [HcB HaB HO]
  · isplitr; · iexact HC
    isplitl [HcB]; · iexact HcB
    isplitl [HaB]; · iexact HaB
    iexact HO
  iintro ⟨Hp, HaB, HO⟩
  ihave H := (Entails.of_eq (univ_D _)) $$ Hp
  icases H with ⟨Hp1, Hp2⟩
  -- the sends along the row
  ihave H := (enter_send1 X c) $$ [Hx Hp1 HtS1 HtV1]
  · isplitl [Hx]; · iexact Hx
    isplitl [Hp1]; · iexact Hp1
    isplitl [HtS1]; · iexact HtS1
    iexact HtV1
  icases H with ⟨Hx, HF⟩
  iapply (snd1 X Wt K c 0 (a := 0) rfl (devn11 c) (k0_off1_eq c) (off2 c 0) rfl rfl) $$ [HF HO]
  · isplitr; · iexact HC
    isplitl [HF]; · iexact HF
    iexact HO
  iintro ⟨HF, HO⟩
  iapply (snd1 X Wt K c 1 (a := 1) rfl (devn12 c) (k0_off1_eq c) (off2 c 1) rfl rfl) $$ [HF HO]
  · isplitr; · iexact HC
    isplitl [HF]; · iexact HF
    iexact HO
  iintro ⟨HF, HO⟩
  iapply (snd1 X Wt K c 2 (a := 2) rfl (devn13 c) (k0_off1_eq c) (off2 c 2) rfl rfl) $$ [HF HO]
  · isplitr; · iexact HC
    isplitl [HF]; · iexact HF
    iexact HO
  iintro ⟨HF, HO⟩
  iapply (snd1 X Wt K c 3 (a := 3) rfl (devn14 c) (k0_off1_eq c) (off2 c 3) rfl rfl) $$ [HF HO]
  · isplitr; · iexact HC
    isplitl [HF]; · iexact HF
    iexact HO
  iintro ⟨HF, HO⟩
  iapply (snd1 X Wt K c 4 (a := 4) rfl (devn15 c) (k0_off1_eq c) (off2 c 4) rfl rfl) $$ [HF HO]
  · isplitr; · iexact HC
    isplitl [HF]; · iexact HF
    iexact HO
  iintro ⟨HF, HO⟩
  iapply (snd1 X Wt K c 5 (a := 5) rfl (devn16 c) (k0_off1_eq c) (off2 c 5) rfl rfl) $$ [HF HO]
  · isplitr; · iexact HC
    isplitl [HF]; · iexact HF
    iexact HO
  iintro ⟨HF, HO⟩
  iapply (snd1 X Wt K c 6 (a := 6) rfl (devn17 c) (k0_off1_eq c) (off2 c 6) rfl rfl) $$ [HF HO]
  · isplitr; · iexact HC
    isplitl [HF]; · iexact HF
    iexact HO
  iintro ⟨HF, HO⟩
  ihave HcS1 := (Entails.of_eq (stg_end _ _)) $$ HF
  -- the own column
  iapply (ownCol X c (k0_off3_eq c) rfl rfl) $$ [Hx Hs]
  · isplitl [Hx]; · iexact Hx
    iexact Hs
  iintro ⟨Hx, Hs⟩
  -- the columns of the others arrive
  ihave HF := (enter_wait X Wt c (fun r : Fin 7 => rcv (.inl r))) $$ [HcV1 HaV1]
  · isplitl [HcV1]; · iexact HcV1
    iexact HaV1
  iapply (waitCol X Wt K c (fun r : Fin 7 => rcv (.inl r)) (fun _ => rfl) sM 0 (a := 0) rfl rfl (mayWait_row c 0)) $$ [HF HO]
  · isplitr; · iexact HC
    isplitl [HF]; · iexact HF
    iexact HO
  iintro ⟨HF, HO⟩
  iapply (waitCol X Wt K c (fun r : Fin 7 => rcv (.inl r)) (fun _ => rfl) sM 1 (a := 1) rfl rfl (mayWait_row c 1)) $$ [HF HO]
  · isplitr; · iexact HC
    isplitl [HF]; · iexact HF
    iexact HO
  iintro ⟨HF, HO⟩
  iapply (waitCol X Wt K c (fun r : Fin 7 => rcv (.inl r)) (fun _ => rfl) sM 2 (a := 2) rfl rfl (mayWait_row c 2)) $$ [HF HO]
  · isplitr; · iexact HC
    isplitl [HF]; · iexact HF
    iexact HO
  iintro ⟨HF, HO⟩
  iapply (waitCol X Wt K c (fun r : Fin 7 => rcv (.inl r)) (fun _ => rfl) sM 3 (a := 3) rfl rfl (mayWait_row c 3)) $$ [HF HO]
  · isplitr; · iexact HC
    isplitl [HF]; · iexact HF
    iexact HO
  iintro ⟨HF, HO⟩
  iapply (waitCol X Wt K c (fun r : Fin 7 => rcv (.inl r)) (fun _ => rfl) sM 4 (a := 4) rfl rfl (mayWait_row c 4)) $$ [HF HO]
  · isplitr; · iexact HC
    isplitl [HF]; · iexact HF
    iexact HO
  iintro ⟨HF, HO⟩
  iapply (waitCol X Wt K c (fun r : Fin 7 => rcv (.inl r)) (fun _ => rfl) sM 5 (a := 5) rfl rfl (mayWait_row c 5)) $$ [HF HO]
  · isplitr; · iexact HC
    isplitl [HF]; · iexact HF
    iexact HO
  iintro ⟨HF, HO⟩
  iapply (waitCol X Wt K c (fun r : Fin 7 => rcv (.inl r)) (fun _ => rfl) sM 6 (a := 6) rfl rfl (mayWait_row c 6)) $$ [HF HO]
  · isplitr; · iexact HC
    isplitl [HF]; · iexact HF
    iexact HO
  iintro ⟨HF, HO⟩
  ihave H := (leave_wait X Wt c (fun r : Fin 7 => rcv (.inl r))) $$ HF
  icases H with ⟨Hp1, HaV1⟩
  -- the sends along the column
  ihave H := (enter_send2 X c) $$ [Hs Hp1 Hp2 HtS2 HtV2]
  · isplitl [Hs]; · iexact Hs
    isplitl [Hp1]; · iexact Hp1
    isplitl [Hp2]; · iexact Hp2
    isplitl [HtS2]; · iexact HtS2
    iexact HtV2
  icases H with ⟨Hs, HF⟩
  iapply (snd2 X Wt K c 0 (a := 0) rfl (devn18 c) (k0_off5_eq c) (off6 c 0) rfl rfl) $$ [HF HO]
  · isplitr; · iexact HC
    isplitl [HF]; · iexact HF
    iexact HO
  iintro ⟨HF, HO⟩
  iapply (snd2 X Wt K c 1 (a := 1) rfl (devn19 c) (k0_off5_eq c) (off6 c 1) rfl rfl) $$ [HF HO]
  · isplitr; · iexact HC
    isplitl [HF]; · iexact HF
    iexact HO
  iintro ⟨HF, HO⟩
  iapply (snd2 X Wt K c 2 (a := 2) rfl (devn20 c) (k0_off5_eq c) (off6 c 2) rfl rfl) $$ [HF HO]
  · isplitr; · iexact HC
    isplitl [HF]; · iexact HF
    iexact HO
  iintro ⟨HF, HO⟩
  ihave HcS2 := (Entails.of_eq (stg_end _ _)) $$ HF
  -- the own row
  iapply (ownRow X c (k0_off7_eq c) rfl rfl) $$ [Hs Hg]
  · isplitl [Hs]; · iexact Hs
    iexact Hg
  iintro ⟨Hs, Hg⟩
  -- the rows of the others arrive
  ihave HF := (enter_wait X Wt c (fun r : Fin 3 => rcv (.inr r))) $$ [HcV2 HaV2]
  · isplitl [HcV2]; · iexact HcV2
    iexact HaV2
  iapply (waitRow X Wt K c (fun r : Fin 3 => rcv (.inr r)) (fun _ => rfl) gM 0 (a := 0) rfl rfl (mayWait_done c _)) $$ [HF HO]
  · isplitr; · iexact HC
    isplitl [HF]; · iexact HF
    iexact HO
  iintro ⟨HF, HO⟩
  iapply (waitRow X Wt K c (fun r : Fin 3 => rcv (.inr r)) (fun _ => rfl) gM 1 (a := 1) rfl rfl (mayWait_done c _)) $$ [HF HO]
  · isplitr; · iexact HC
    isplitl [HF]; · iexact HF
    iexact HO
  iintro ⟨HF, HO⟩
  iapply (waitRow X Wt K c (fun r : Fin 3 => rcv (.inr r)) (fun _ => rfl) gM 2 (a := 2) rfl rfl (mayWait_done c _)) $$ [HF HO]
  · isplitr; · iexact HC
    isplitl [HF]; · iexact HF
    iexact HO
  iintro ⟨HF, HO⟩
  ihave H := (leave_wait X Wt c (fun r : Fin 3 => rcv (.inr r))) $$ HF
  icases H with ⟨Hp2, HaV2⟩
  ihave Hg := (join_g X c) $$ [Hg Hp2]
  · isplitl [Hg]; · iexact Hg
    iexact Hp2
  -- the own sends are over
  ihave HF := (enter_wait X Wt c (fun r : Fin 7 => snd (.inl r))) $$ [HcS1 HaS1]
  · isplitl [HcS1]; · iexact HcS1
    iexact HaS1
  iapply (waitCol X Wt K c (fun r : Fin 7 => snd (.inl r)) (fun _ => rfl) xM 0 (a := 0) rfl rfl (mayWait_done c _)) $$ [HF HO]
  · isplitr; · iexact HC
    isplitl [HF]; · iexact HF
    iexact HO
  iintro ⟨HF, HO⟩
  iapply (waitCol X Wt K c (fun r : Fin 7 => snd (.inl r)) (fun _ => rfl) xM 1 (a := 1) rfl rfl (mayWait_done c _)) $$ [HF HO]
  · isplitr; · iexact HC
    isplitl [HF]; · iexact HF
    iexact HO
  iintro ⟨HF, HO⟩
  iapply (waitCol X Wt K c (fun r : Fin 7 => snd (.inl r)) (fun _ => rfl) xM 2 (a := 2) rfl rfl (mayWait_done c _)) $$ [HF HO]
  · isplitr; · iexact HC
    isplitl [HF]; · iexact HF
    iexact HO
  iintro ⟨HF, HO⟩
  iapply (waitCol X Wt K c (fun r : Fin 7 => snd (.inl r)) (fun _ => rfl) xM 3 (a := 3) rfl rfl (mayWait_done c _)) $$ [HF HO]
  · isplitr; · iexact HC
    isplitl [HF]; · iexact HF
    iexact HO
  iintro ⟨HF, HO⟩
  iapply (waitCol X Wt K c (fun r : Fin 7 => snd (.inl r)) (fun _ => rfl) xM 4 (a := 4) rfl rfl (mayWait_done c _)) $$ [HF HO]
  · isplitr; · iexact HC
    isplitl [HF]; · iexact HF
    iexact HO
  iintro ⟨HF, HO⟩
  iapply (waitCol X Wt K c (fun r : Fin 7 => snd (.inl r)) (fun _ => rfl) xM 5 (a := 5) rfl rfl (mayWait_done c _)) $$ [HF HO]
  · isplitr; · iexact HC
    isplitl [HF]; · iexact HF
    iexact HO
  iintro ⟨HF, HO⟩
  iapply (waitCol X Wt K c (fun r : Fin 7 => snd (.inl r)) (fun _ => rfl) xM 6 (a := 6) rfl rfl (mayWait_done c _)) $$ [HF HO]
  · isplitr; · iexact HC
    isplitl [HF]; · iexact HF
    iexact HO
  iintro ⟨HF, HO⟩
  ihave H := (leave_wait X Wt c (fun r : Fin 7 => snd (.inl r))) $$ HF
  icases H with ⟨Hp1, HaS1⟩
  ihave Hx := (join_x X c) $$ [Hx Hp1]
  · isplitl [Hx]; · iexact Hx
    iexact Hp1
  ihave HF := (enter_wait X Wt c (fun r : Fin 3 => snd (.inr r))) $$ [HcS2 HaS2]
  · isplitl [HcS2]; · iexact HcS2
    iexact HaS2
  iapply (waitRow X Wt K c (fun r : Fin 3 => snd (.inr r)) (fun _ => rfl) sM 0 (a := 0) rfl rfl (mayWait_done c _)) $$ [HF HO]
  · isplitr; · iexact HC
    isplitl [HF]; · iexact HF
    iexact HO
  iintro ⟨HF, HO⟩
  iapply (waitRow X Wt K c (fun r : Fin 3 => snd (.inr r)) (fun _ => rfl) sM 1 (a := 1) rfl rfl (mayWait_done c _)) $$ [HF HO]
  · isplitr; · iexact HC
    isplitl [HF]; · iexact HF
    iexact HO
  iintro ⟨HF, HO⟩
  iapply (waitRow X Wt K c (fun r : Fin 3 => snd (.inr r)) (fun _ => rfl) sM 2 (a := 2) rfl rfl (mayWait_done c _)) $$ [HF HO]
  · isplitr; · iexact HC
    isplitl [HF]; · iexact HF
    iexact HO
  iintro ⟨HF, HO⟩
  ihave H := (leave_wait X Wt c (fun r : Fin 3 => snd (.inr r))) $$ HF
  icases H with ⟨Hp2, HaS2⟩
  ihave Hs := (join_s X c) $$ [Hs Hp2]
  · isplitl [Hs]; · iexact Hs
    iexact Hp2
  -- the weights have arrived
  iapply (waitSc X Wt K c wgt (sm := dmaOf wgt) rfl (mayWait_done c _) rfl) $$ [HcW HaW HO]
  · isplitr; · iexact HC
    isplitl [HcW]; · iexact HcW
    isplitl [HaW]; · iexact HaW
    iexact HO
  iintro ⟨Hp, HaW, HO⟩
  ihave H := (Entails.of_eq (show pay X Wt c wgt = iprop(wAt c (Wt c) ∗ hAt c (Wt c)) from rfl)) $$ Hp
  icases H with ⟨Hw, Hh⟩
  -- the product and the activation
  iapply (wp_load 𝒱₀ (c : Thread nD τ) none Set.univ (m := gM) (S := Finset.univ) (q := fullShare) (f := G X c) (Finset.subset_univ _)) $$ Hg
  iintro Hg
  iapply (wp_load 𝒱₀ (c : Thread nD τ) none Set.univ (m := wM) (S := Finset.univ) (q := fullShare) (f := Wt c) (Finset.subset_univ _)) $$ Hw
  iintro Hw
  iapply (wp_load 𝒱₀ (c : Thread nD τ) none Set.univ (m := oM) (S := Finset.univ) (q := fullShare) (f := fo) (Finset.subset_univ _)) $$ Ho
  iintro Ho
  iapply (wp_store 𝒱₀ (c : Thread nD τ) none Set.univ (m := oM) (r := Rect.unit (s := S32x1024) ![0, 0] S32x1024.size inb_S32x1024_S32x1024_0_0)
      (Mk := Finset.univ) (S := Finset.univ) (f := fo) (Finset.subset_univ _)) $$ Ho
  iintro Ho
  ihave Ho := (out_final X Wt c fo) $$ Ho
  -- the return: every cell closed
  rw [wp_ret]
  unfold ctx
  icases HC with ⟨#HI, -, -, -⟩
  imod (close_bar X Wt K c) $$ [HaB] with HvB
  · isplitr; · iexact HI
    iexact HaB
  imod (close_sc X Wt K c) $$ [HaS1 HaS2 HaV1 HaV2 HaW] with HvS
  · isplitr; · iexact HI
    rw [univ_Sc, univ_D, univ_D]
    isplitl [HaS1 HaS2]
    · isplitl [HaS1]; · iexact HaS1
      iexact HaS2
    isplitl [HaV1 HaV2]
    · isplitl [HaV1]; · iexact HaV1
      iexact HaV2
    iexact HaW
  imodintro
  iapply Hk
  unfold bodyPost
  isplitl [HvB]; · iexact HvB
  isplitl [HvS]; · iexact HvS
  isplitl [Hx]; · iexact Hx
  isplitl [Hs]; · iexists _; iexact Hs
  isplitl [Hg]; · iexists _; iexact Hg
  isplitl [Hw]; · iexists _; iexact Hw
  isplitl [Hh]; · iexact Hh
  isplitl [Ho]; · iexact Ho
  iapply (Entails.of_eq (congrArg (own c) (owed_done c))) $$ HO

end Cert.Gather

end
-- ==== Proof.Region.lean ====
/-
The region: the kernel's one grid point with the windows around it, entered from the buffers as the host operation
leaves them and left with the result written.
-/
module

public import proofs.«01_k».proof.Proof.Body

@[expose] public section

noncomputable section

namespace Cert.Gather

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `c`'s block of the input, reshaped, and its copy of the weights. -/
def Xin (c : Dev nD) : Blk F := V m c main_v1
def Win (c : Dev nD) : Wts F := m ((c : Thread nD τ).loc main_arg1)
/-- Device `c`'s buffers when the region is entered, and when it is left. -/
abbrev W₀ (c : Dev nD) : Valuation τ sig (Elt F) := fun b => m (c, b)
abbrev W₁ (c : Dev nD) : Valuation τ sig (Elt F) := StableHlo.after hostOps0 (W₀ m c)
abbrev W₂ (c : Dev nD) : Valuation τ sig (Elt F) := Function.update (W₁ m c) (Proc.devRef .tc main_v2) (res (Xin m) (Win m) c)

theorem W₂_v2 (c : Dev nD) : W₂ m c main_v2 = res (Xin m) (Win m) c := Function.update_self ..
theorem W₂_v1 (c : Dev nD) : W₂ m c main_v1 = W₁ m c main_v1 := Function.update_of_ne (by decide) ..
theorem W₂_arg0 (c : Dev nD) : W₂ m c main_arg0 = W₁ m c main_arg0 := Function.update_of_ne (by decide) ..
theorem W₂_arg1 (c : Dev nD) : W₂ m c main_arg1 = W₁ m c main_arg1 := Function.update_of_ne (by decide) ..
theorem W₁_arg1 (c : Dev nD) : W₁ m c main_arg1 = Win m c := V_main_arg1 m c

theorem blk_emb0 (i : S4x8x32x32.Idx) : ((cfg0.win 0).blk t0_0).view.emb i = i := by
  funext a; apply Fin.ext
  show 0 * _ + 1 * (i a).val = (i a).val
  omega
theorem blk_emb1 (i : S32x1024.Idx) : ((cfg0.win 1).blk t0_0).view.emb i = i := by
  funext a; apply Fin.ext
  show 0 * _ + 1 * (i a).val = (i a).val
  omega

/-! ## The proof data -/

/-- Before the point, what the body starts from beside its windows; after it, what the body leaves. -/
def opened (K : GSem nD τ sig → ℕ) (c : Dev nD) : sProp 𝕄 :=
  iprop(ctx (Xin m) (Win m) K c ∗ atPos ER (barCell c) 0 ∅ 0 ∗ (bigSep Finset.univ fun s : Sc => atPos ER (cell c (some s)) 0 ∅ 0) ∗ toks c)
def scratch (c : Dev nD) : sProp 𝕄 :=
  iprop((∃ f, sAt c Finset.univ f) ∗ (∃ f, gAt c Finset.univ f) ∗ (∃ f, wAt c f))
def Xk (c : Dev nD) : sProp 𝕄 := iprop((∃ K, opened m K c) ∗ creds c)
def Yk (c : Dev nD) : sProp 𝕄 := semVal (barCell c) 0
def Φ₀ (c : Dev nD) : sProp 𝕄 := iprop(Xk m c ∗ hAt c (Win m c) ∗ scratch c ∗ ∃ r, prngReg c r)
def Φ₁ (c : Dev nD) : sProp 𝕄 :=
  iprop(Yk c ∗ (bigSep Finset.univ fun s : Sc => semVal (cell c (some s)) 0) ∗ hAt c (Win m c) ∗ scratch c ∗ ∃ r, prngReg c r)

def after (c : Dev nD) : (w : Fin cfg0.W) → Fin cfg0.N → (cfg0.win w).block.Idx → Elt F (cfg0.win w).elt
  | 0 => fun _ => Xin m c
  | 1 => fun _ => res (Xin m) (Win m) c
  | ⟨_ + 2, h⟩ => absurd h (Nat.not_lt.2 (Nat.le_add_left _ _))

def dat (c : Dev nD) : Dat τ (Elt F) Unit ℕ UU ℕ cfg0 c where
  A w := V m c (Pipeline.arrRef spec0 w)
  after := after m c
  Φ t := if t.val = 0 then Φ₀ m c else Φ₁ m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem Φ_first (c : Dev nD) : (dat m c).Φ t0_0.castSucc = Φ₀ m c := by
  show (if t0_0.val = 0 then Φ₀ m c else Φ₁ m c) = Φ₀ m c; exact if_pos rfl
theorem Φ_last (c : Dev nD) : (dat m c).Φ t0_0.succ = Φ₁ m c := by
  show (if t0_0.val + 1 = 0 then Φ₀ m c else Φ₁ m c) = Φ₁ m c; exact if_neg (Nat.succ_ne_zero _)
theorem owed_first (c : Dev nD) : (dat m c).owed t0_0.castSucc = O₀ c := by
  show (if t0_0.val = 0 then O₀ c else 0) = O₀ c; exact if_pos rfl
theorem owed_last (c : Dev nD) : (dat m c).owed t0_0.succ = 0 := by
  show (if t0_0.val + 1 = 0 then O₀ c else 0) = 0; exact if_neg (Nat.succ_ne_zero _)
theorem owed_zero (c : Dev nD) : (pdats m 0 c).owed 0 = O₀ c := by
  show (if ((0 : Fin (cfg0.N + 1)).val = 0) then O₀ c else 0) = O₀ c; exact if_pos rfl
theorem last_ne : (Fin.last cfg0.N).val ≠ 0 := by rw [Fin.val_last, show cfg0.N = 1 from N_0]; decide
theorem owed_end (c : Dev nD) : (pdats m 0 c).owed (Fin.last _) = 0 := by
  show (if ((Fin.last cfg0.N).val = 0) then O₀ c else 0) = 0; exact if_neg last_ne
theorem Φ_zero (c : Dev nD) : (pdats m 0 c).Φ 0 = Φ₀ m c := by
  show (if ((0 : Fin (cfg0.N + 1)).val = 0) then Φ₀ m c else Φ₁ m c) = Φ₀ m c; exact if_pos rfl
theorem Φ_end (c : Dev nD) : (pdats m 0 c).Φ (Fin.last _) = Φ₁ m c := by
  show (if ((Fin.last cfg0.N).val = 0) then Φ₀ m c else Φ₁ m c) = Φ₁ m c; exact if_neg last_ne

theorem read0 (c : Dev nD) : ((cfg0.win 0).blk t0_0).view.read (Elt F) (V m c (Pipeline.arrRef spec0 0)) = Xin m c := by
  funext i
  rw [View.read_apply]
  exact congrArg (V m c main_v1) (blk_emb0 i)

theorem before0 (c : Dev nD) (d) : (dat m c).before 0 t0_0 d = Xin m c := by
  unfold Dat.before; rw [if_pos (fetch0_0 t0_0)]
  exact read0 m c

theorem owesAt_make (c : Dev nD) (t : Fin (cfg0.N + 1)) (O : CellTallies nD τ sig Unit) (h : (dat m c).owed t = O) :
    own (F := F) c O ⊢ ((dat m c).owesAt () t : sProp 𝕄) := by
  unfold Dat.owesAt Pipeline.owesWithin Dat.bound own; rw [h]
  iintro ⟨%Wd, HO⟩; iexists Wd; isplitr; · ipureintro; exact fun _ _ => Or.inl trivial
  iexact HO
theorem owesAt_take (c : Dev nD) (t : Fin (cfg0.N + 1)) (O : CellTallies nD τ sig Unit) (h : (dat m c).owed t = O) :
    ((dat m c).owesAt () t : sProp 𝕄) ⊢ own c O := by
  unfold Dat.owesAt Pipeline.owesWithin own; rw [h]
  iintro ⟨%Wd, -, HO⟩; iexists Wd; iexact HO

theorem body_at (c : Dev nD) : BodyObligation (dat m c) (defs₀ (F := F)) 𝒱₀ () Set.univ := fun t => by
  obtain rfl := fin_N0 t
  rw [bigSep_W0, bigSep_W0, Φ_first, Φ_last]
  simp only [owns_whole_eq]
  show iprop(Φ₀ m c ∗ (dat m c).owesAt () t0_0.castSucc
      ∗ (∃ d, ∃ f : Buf (Elt F) ((c : Thread nD τ).loc cc0_stg0_0), ⌜f = (dat m c).before 0 t0_0 d⌝ ∗ (((c : Thread nD τ).loc cc0_stg0_0) ↦{fullShare} f))
      ∗ (∃ d, ∃ f : Buf (Elt F) ((c : Thread nD τ).loc cc0_stg1_0), ⌜f = (dat m c).before 1 t0_0 d⌝ ∗ (((c : Thread nD τ).loc cc0_stg1_0) ↦{fullShare} f)))
    ⊢ wp frame (wpE (defs₀ (F := F)) 𝒱₀ (c : Thread nD τ) none) Set.univ
        (cc0_body (Memref.whole cc0_stg0_0) (Memref.isWhole_whole _) (Memref.whole main_arg1) (Memref.isWhole_whole _)
          (Memref.whole cc0_stg1_0) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scratch5 cc0_scratch6 cc0_scratch7)
        (fun _ => iprop(Φ₁ m c ∗ (dat m c).owesAt () t0_0.succ
          ∗ (∃ f : Buf (Elt F) ((c : Thread nD τ).loc cc0_stg0_0), ⌜f = Xin m c⌝ ∗ (((c : Thread nD τ).loc cc0_stg0_0) ↦{fullShare} f))
          ∗ (∃ f : Buf (Elt F) ((c : Thread nD τ).loc cc0_stg1_0), ⌜f = res (Xin m) (Win m) c⌝ ∗ (((c : Thread nD τ).loc cc0_stg1_0) ↦{fullShare} f))))
  unfold Φ₀ Xk scratch
  iintro ⟨⟨⟨⟨%K, Hk⟩, Hc⟩, Hh, ⟨Hs, Hg, Hw⟩, Hp⟩, HO, ⟨%d, %f, %hf, Hx⟩, ⟨%d', %f', %hf', Ho⟩⟩
  obtain rfl := hf.trans (before0 m c d)
  ihave HO' := (owesAt_take m c _ (O₀ c) (owed_first m c)) $$ HO
  iapply (body_run (X := Xin m) (Wt := Win m) (K := K) (c := c))
  isplitr [Hp]
  · unfold bodyPre opened
    icases Hk with ⟨Hctx, Hb, Ha, Ht⟩
    isplitl [Hctx]; · iexact Hctx
    isplitl [Hb]; · iexact Hb
    isplitl [Ha]; · iexact Ha
    isplitl [Ht]; · iexact Ht
    isplitl [Hc]; · iexact Hc
    isplitl [Hx]; · iexact Hx
    isplitl [Hs]; · iexact Hs
    isplitl [Hg]; · iexact Hg
    isplitl [Hw]; · iexact Hw
    isplitl [Hh]; · iexact Hh
    isplitl [Ho]; · iexists f'; iexact Ho
    iexact HO'
  unfold bodyPost Φ₁ Yk scratch
  iintro ⟨Hb, Ha, Hx, Hs, Hg, Hw, Hh, Ho, HO⟩
  isplitl [Hb Ha Hs Hg Hw Hh Hp]
  · isplitl [Hb]; · iexact Hb
    isplitl [Ha]; · iexact Ha
    isplitl [Hh]; · iexact Hh
    isplitl [Hs Hg Hw]
    · isplitl [Hs]; · iexact Hs
      isplitl [Hg] <;> iassumption
    iexact Hp
  isplitl [HO]; · iapply (owesAt_make m c _ 0 (owed_last m c)); iexact HO
  isplitl [Hx]
  · iexists Xin m c; isplitr; · ipureintro; rfl
    iexact Hx
  iexists res (Xin m) (Win m) c; isplitr; · ipureintro; rfl
  iexact Ho

/-! ## The region entered and left -/

/-- What the program's launch keeps for the region. -/
def start (c : Dev nD) : sProp 𝕄 :=
  iprop((∃ K, invs (Xin m) (Win m) K ∗ bars ∗ atPos ER (barCell c) 0 ∅ 0 ∗ (bigSep Finset.univ fun s : Sc => openTok ER (cell c (some s))) ∗ toks c)
    ∗ creds c)

abbrev osem (s : Sc) : SemLoc sig := semOf (some s)
theorem osem_facts : Pipeline.OwnSemFacts spec0 osem := by decide
theorem ownSems_eq (c : Dev nD) : (Pipeline.ownSems0 osem c : sProp 𝕄) = bigSep Finset.univ fun s : Sc => semVal (cell c (some s)) 0 := rfl

theorem open_all (c : Dev nD) (K : GSem nD τ sig → ℕ) :
    iprop(invs (Xin m) (Win m) K ∗ bigSep Finset.univ fun s : Sc => iprop(openTok ER (cell c (some s)) ∗ semVal (cell c (some s)) 0))
      ⊢ (|={Set.univ}=> bigSep Finset.univ fun s : Sc => iprop(atPos ER (cell c (some s)) 0 ∅ 0 ∗ reached ER (cell c (some s)) 0) : sProp 𝕄) := by
  refine BIBase.Entails.trans ?_ (bigSep_fupd _ _)
  refine bigSep_with_persistent (R := invs (Xin m) (Win m) K) fun s _ => ?_
  iintro ⟨#HI, Ht, Hv⟩
  imod (Rounds.cell_open ER (Rd (Xin m) (Win m)) (g := cell c (some s)) (Set.mem_univ (K (cell c (some s))))) $$ [Ht Hv] with ⟨Ha, #Hr⟩
  · isplitr; · iapply (inv_at (Xin m) (Win m) K c (some s)); iexact HI
    isplitl [Ht] <;> iassumption
  imodintro
  isplitl [Ha]; · iexact Ha
  iexact Hr

theorem enter (c : Dev nD) : iprop(start m c ∗ Pipeline.ownSems0 osem c ∗ levAts L lv) ⊢ (|={Set.univ}=> Xk m c : sProp 𝕄) := by
  rw [ownSems_eq]
  unfold start Xk
  iintro ⟨⟨⟨%K, #HI, #HB, Hb, Ho, Ht⟩, Hc⟩, Hv, #HL⟩
  imod (open_all m c K) $$ [Ho Hv] with H
  · isplitr; · iexact HI
    iapply (Entails.of_eq (bigSep_sep' Finset.univ (fun s : Sc => openTok ER (cell c (some s))) (fun s : Sc => (semVal (cell c (some s)) 0 : sProp 𝕄))).symm)
    isplitl [Ho] <;> iassumption
  ihave H2 := (Entails.of_eq (bigSep_sep' Finset.univ (fun s : Sc => (atPos ER (cell c (some s)) 0 ∅ 0 : sProp 𝕄)) (fun s : Sc => reached ER (cell c (some s)) 0))) $$ H
  icases H2 with ⟨Ha, #Hr⟩
  imodintro
  isplitr [Hc]
  · iexists K
    unfold opened ctx rchd
    isplitr
    · isplitr; · iexact HI
      isplitr; · iexact HB
      isplitr; · iexact Hr
      iexact HL
    isplitl [Hb]; · iexact Hb
    isplitl [Ha] <;> iassumption
  iexact Hc

abbrev Hs : Finset (DevRef τ sig) := {Proc.devRef .tc main_arg1}
abbrev Sr : Finset (DevRef τ sig) := {Proc.devRef .tc main_arg0, Proc.devRef .tc main_arg1}

theorem held_Hs (c : Dev nD) (W : Valuation τ sig (Elt F)) :
    (StableHlo.held (c : Thread nD τ) Hs W : sProp 𝕄) = hAt c (W main_arg1) := by
  unfold StableHlo.held; rw [BI.bigSep_singleton]

theorem hin (c : Dev nD) : iprop(Pipeline.scopedRest (Pipeline.pin (pcfgs (F := F)) adm 0).spec c ∗ (∃ r, prngReg c r)
      ∗ StableHlo.held (c.tc : Thread nD τ) Hs (W₁ m c) ∗ Xk m c) ⊢ (pdats m 0 c).Φ 0 := by
  rw [Φ_zero, held_Hs, W₁_arg1, show Pipeline.scopedRest (Ix := Unit) (Name := ℕ) (U := UU) (Lvl := ℕ) (Val := Elt F) (Pipeline.pin (pcfgs (F := F)) adm 0).spec c = _ from scopedRest0_eq c]
  unfold Φ₀ scratch
  iintro ⟨H, Hp, Hh, HX⟩
  isplitl [HX]; · iexact HX
  isplitl [Hh]; · iexact Hh
  isplitl [H]; · iexact H
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (W₂ m c) ∗ Pipeline.ownSems0 osem c ∗ Yk c) := by
  rw [Φ_end, held_Hs, W₂_arg1, W₁_arg1, ownSems_eq, show Pipeline.scopedRest (Ix := Unit) (Name := ℕ) (U := UU) (Lvl := ℕ) (Val := Elt F) (Pipeline.pin (pcfgs (F := F)) adm 0).spec c = _ from scopedRest0_eq c]
  unfold Φ₁ scratch
  iintro ⟨HY, Ha, Hh, H, Hp⟩
  isplitl [H]; · iexact H
  isplitl [Hp]; · iexact Hp
  isplitl [Hh]; · iexact Hh
  isplitl [Ha] <;> iassumption

theorem kit : Pipeline.PLaunchFacts (nD := nD) (τ := τ) (pcfgs (F := F)) 0 := launch0.toP

/-- Everything a device starts out owing is above the copies into and out of the windows. -/
theorem start_pos {c : Dev nD} {g : GSem nD τ sig} {u : Unit} (h : 0 < O₀ c g u) : u ∈ L g ∧ (0 : ℕ) < lv g u := by
  have hbar : ∀ p : Dev nD, g = barCell p → u ∈ L g ∧ (0 : ℕ) < lv g u := by
    rintro p rfl; exact ⟨by rw [L_tc]; exact Finset.mem_singleton_self _, by rw [lv_bar]; decide⟩
  have hrcv : ∀ (p : Dev nD) (d : D), g = rcvCell p d → u ∈ L g ∧ (0 : ℕ) < lv g u := by
    rintro p (r | r) rfl
    · exact ⟨by rw [L_tc]; exact Finset.mem_singleton_self _, by rw [lv_row]; decide⟩
    · exact ⟨by rw [L_tc]; exact Finset.mem_singleton_self _, by rw [lv_col]; decide⟩
  have hb : ∀ d : D, 0 < oBar c d g u → g = barCell (peer c d) := fun d hd => by
    unfold oBar at hd
    rw [tallyAt_apply] at hd
    by_contra hn
    rw [if_neg (fun h' => hn h'.1)] at hd
    exact absurd hd (Nat.lt_irrefl 0)
  unfold O₀ owed at h
  rcases Nat.add_pos_iff_pos_or_pos.mp (show 0 < _ + _ from h) with h | h
  · rcases Nat.add_pos_iff_pos_or_pos.mp (show 0 < _ + _ from h) with h | h
    · rcases Nat.add_pos_iff_pos_or_pos.mp (show 0 < _ + _ from h) with h | h
      · obtain ⟨r, hr⟩ := rem_pos h; exact hrcv _ _ (oRcv_pos hr)
      · obtain ⟨r, hr⟩ := rem_pos h; exact hrcv _ _ (oRcv_pos hr)
    · obtain ⟨r, hr⟩ := rem_pos h; exact hbar _ (hb _ hr)
  · obtain ⟨r, hr⟩ := rem_pos h; exact hbar _ (hb _ hr)

theorem cut (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · exact start_pos h
  · exact absurd h (Nat.lt_irrefl 0)

theorem arr_end1 (c : Dev nD) : (dat m c).arrAt 1 cfg0.N = res (Xin m) (Win m) c := by
  have h1 : (dat m c).arrAt 1 cfg0.N = (dat m c).arrAt 1 1 := congrArg ((dat m c).arrAt 1) N_0
  rw [h1]
  have h2 : (dat m c).arrAt 1 1 = ((cfg0.win 1).blk t0_0).view.write (Elt F) ((dat m c).arrAt 1 0) ((dat m c).flushed 1 t0_0) Finset.univ := by
    show (if h : 0 < cfg0.N then (if (cfg0.win 1).flush ⟨0, h⟩ then
        ((cfg0.win 1).blk ⟨0, h⟩).view.write (Elt F) ((dat m c).arrAt 1 0) ((dat m c).flushed 1 ⟨0, h⟩) Finset.univ
      else (dat m c).arrAt 1 0) else (dat m c).arrAt 1 0) = _
    rw [dif_pos (show 0 < cfg0.N by rw [show cfg0.N = 1 from N_0]; decide), if_pos (flush0_1 _)]
    rfl
  rw [h2]
  funext i
  have h3 := View.write_emb_of_mem (v := ((cfg0.win 1).blk t0_0).view) ((dat m c).arrAt 1 0) ((dat m c).flushed 1 t0_0) (Finset.mem_univ (i : S32x1024.Idx))
  rw [blk_emb1] at h3
  exact h3

theorem arr_start (c : Dev nD) (w : Fin cfg0.W) : (pdats m 0 c).arrAt w 0 = W₁ m c (Proc.devRef .tc (Pipeline.arrRef spec0 w)) := rfl
theorem arr_end (c : Dev nD) (w : Fin cfg0.W) : (pdats m 0 c).arrAt w cfg0.N = W₂ m c (Proc.devRef .tc (Pipeline.arrRef spec0 w)) := by
  fin_cases w
  · exact ((dat m c).arrAt_in 0 rfl _).trans (W₂_v1 m c).symm
  · exact (arr_end1 m c).trans (W₂_v2 m c).symm

local notation "ℝ𝕊" => Pipeline.RegionSeg (pcfgs (F := F)) adm (pdats m) () defs₀ 𝒱₀ L lv

set_option backward.isDefEq.respectTransparency.types false in
def region : ℝ𝕊 0 :=
  Pipeline.RegionSeg.ofTalk (pcfgs (F := F)) adm (pdats m) () defs₀ 𝒱₀ L lv 0 osem osem_facts
    Hs Sr (by decide) kit rfl (fun c => (body_at m c).loose)
    (fun _ => 0) O₀ (fun c => (owed_zero m c).trans (zero_add _).symm) (owed_end m) (fun _ => rfl)
    (fun c w => by unfold Dat.share; split <;> rfl)
    (W₁ m) (W₂ m) (fun c b hb => by
      have hb' : b = Proc.devRef .tc main_arg0 := by revert b; decide
      subst hb'; exact W₂_arg0 m c)
    (start m) Yk (Xk m) Yk (enter m) (hin m) (hout m)
    (fun c => by iintro H; imodintro; iexact H)
    (fun _ => 0)
    ⟨fun c w s => by rw [L_tc]; exact Finset.mem_singleton_self _, fun c w s => by fin_cases w <;> fin_cases s <;> exact le_of_eq rfl, fun c t g i h => cut m c t g i h⟩
    (fun _ => iprop(emp))
    (arr_start m) (arr_end m)

end Cert.Gather

end
-- ==== Proof.Launch.lean ====
/-
The launch and the run: the cells set up and their tokens dealt to the devices that pay, what the devices owe one
another credited, and the whole program run from any memory with zero counters.
-/
module

public import proofs.«01_k».proof.Proof.Region
public import Idealize.ShloMosaic.Lib.Quiescent

@[expose] public section

noncomputable section

namespace Cert.Gather

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem O₀_sum (c : Dev nD) : O₀ c = ∑ d : D, (oRcv c d + oBar c d) := by
  unfold O₀ owed
  rw [rem_zero, rem_zero, rem_zero, rem_zero, Finset.sum_add_distrib, Fintype.sum_sum_type, Fintype.sum_sum_type]
  abel

theorem cell_eq {c c' : Dev nD} {a b : Option Sc} : cell c a = cell c' b ↔ c = c' ∧ a = b :=
  ⟨cell_inj, fun h => by rw [h.1, h.2]⟩

/-- What all devices owe a cell, a step at a time, each device counted from where its step leads. -/
theorem O₀_all (g : GSem nD τ sig) : ∑ c : Dev nD, O₀ c g ()
    = ∑ d : D, ∑ c : Dev nD, ((if g = rcvCell c d then amtD d else 0) + (if g = barCell c then 1 else 0)) := by
  have h1 : ∀ c : Dev nD, O₀ c g () = ∑ d : D, ((if g = rcvCell (peer c d) d then amtD d else 0) + (if g = barCell (peer c d) then 1 else 0)) := fun c => by
    rw [O₀_sum, Finset.sum_apply, Finsupp.finset_sum_apply]
    refine Finset.sum_congr rfl fun d _ => ?_
    rw [Pi.add_apply, Finsupp.add_apply]
    unfold oRcv oBar
    rw [tallyAt_apply, tallyAt_apply]
    simp only [and_true]
  rw [Finset.sum_congr rfl fun c _ => h1 c, Finset.sum_comm]
  exact Finset.sum_congr rfl fun d _ =>
    Equiv.sum_comp (peerE d) fun c => ((if g = rcvCell c d then amtD d else 0) + (if g = barCell c then 1 else 0))

theorem O₀_bar (p : Dev nD) : ∑ c : Dev nD, O₀ c (barCell p) () = 10 := by
  rw [O₀_all]
  have h : ∀ d : D, ∑ c : Dev nD, ((if barCell p = rcvCell c d then amtD d else 0) + (if barCell p = barCell c then 1 else 0)) = 1 := fun d => by
    rw [Finset.sum_congr rfl fun c _ => by rw [if_neg (fun h => by simpa using (cell_inj h).2), Nat.zero_add],
      Finset.sum_eq_single p (fun c _ hc => if_neg fun h => hc (cell_inj h).1.symm) (fun h => absurd (Finset.mem_univ p) h), if_pos rfl]
  rw [Finset.sum_congr rfl fun d _ => h d]
  decide

theorem O₀_rcv (p : Dev nD) (e : D) : ∑ c : Dev nD, O₀ c (rcvCell p e) () = amtD e := by
  rw [O₀_all]
  have h : ∀ d : D, ∑ c : Dev nD, ((if rcvCell p e = rcvCell c d then amtD d else 0) + (if rcvCell p e = barCell c then 1 else 0))
      = if d = e then amtD e else 0 := fun d => by
    rw [Finset.sum_congr rfl fun c _ => by rw [if_neg (c := rcvCell p e = barCell c) (fun h => by simpa using (cell_inj h).2), Nat.add_zero]]
    by_cases hd : d = e
    · subst hd
      rw [Finset.sum_eq_single p (fun c _ hc => if_neg fun h => hc (cell_inj h).1.symm) (fun h => absurd (Finset.mem_univ p) h), if_pos rfl, if_pos rfl]
    · rw [if_neg hd]
      refine Finset.sum_eq_zero fun c _ => if_neg fun h => hd ?_
      have := (cell_inj h).2
      simpa using this.symm
  rw [Finset.sum_congr rfl fun d _ => h d, Finset.sum_ite_eq' Finset.univ e fun _ => amtD e, if_pos (Finset.mem_univ _)]

theorem credit_bar (c : Dev nD) :
    tallyOn (barCell c) (launchCredit (Pipeline.owing O₀) 0 (barCell c)) = (tallyAt (barCell c) () 10 : CellTallies nD τ sig Unit) := by
  unfold tallyAt; refine congrArg _ (Finsupp.ext fun u => ?_); cases u
  rw [Pipeline.launchCredit_owing, Finsupp.single_eq_same]; exact O₀_bar c
theorem credit_rcv (c : Dev nD) (d : D) :
    tallyOn (rcvCell c d) (launchCredit (Pipeline.owing O₀) 0 (rcvCell c d)) = (tallyAt (rcvCell c d) () (amtD d) : CellTallies nD τ sig Unit) := by
  unfold tallyAt; refine congrArg _ (Finsupp.ext fun u => ?_); cases u
  rw [Pipeline.launchCredit_owing, Finsupp.single_eq_same]; exact O₀_rcv c d

/-- The semaphores a device waits on for what others pay. -/
def waited : Option D ↪ SemLoc sig :=
  ⟨fun o => semOf (o.map fun d => rcv d), fun a b h => by
    have := semOf_inj h
    cases a <;> cases b <;> simp_all⟩

theorem credits (c : Dev nD) : (Pipeline.launchCred O₀ c : sProp 𝕄) ⊢ creds c := by
  unfold Pipeline.launchCred creds
  refine BIBase.Entails.trans (bigSep_subset (Finset.subset_univ (Finset.univ.map waited))) ?_
  rw [BI.bigSep_map, BI.bigSep_univ_split none]
  refine Entails.of_eq ?_
  rw [show (Finset.univ.erase (none : Option D)) = Finset.univ.map Function.Embedding.some from by decide, BI.bigSep_map]
  refine congrArg₂ (fun P Q => iprop(P ∗ Q)) ?_ (bigSep_congr fun d _ => ?_)
  · exact congrArg cred (credit_bar c)
  · exact congrArg cred (credit_rcv c d)

/-! ## The cells and the tokens -/

def barEmb : Dev nD ↪ GSem nD τ sig := ⟨fun c => barCell c, fun _ _ h => (cell_inj h).1⟩
def scEmb : Dev nD × Sc ↪ GSem nD τ sig :=
  ⟨fun p => cell p.1 (some p.2), fun _ _ h => Prod.ext (cell_inj h).1 (Option.some.inj (cell_inj h).2)⟩
def cellEmb : Dev nD × Option Sc ↪ GSem nD τ sig := ⟨fun p => cell p.1 p.2, fun _ _ h => Prod.ext (cell_inj h).1 (cell_inj h).2⟩
abbrev barSet : Finset (GSem nD τ sig) := Finset.univ.map barEmb
abbrev scSet : Finset (GSem nD τ sig) := Finset.univ.map scEmb

theorem cells_disjoint : Disjoint (barSet : Finset (GSem nD τ sig)) scSet := by
  rw [Finset.disjoint_left]
  rintro g h₁ h₂
  obtain ⟨c, -, rfl⟩ := Finset.mem_map.mp h₁
  obtain ⟨p, -, h⟩ := Finset.mem_map.mp h₂
  simpa using (cell_inj h).2

theorem cells_all : (barSet ∪ scSet : Finset (GSem nD τ sig)) = Finset.univ.map cellEmb := by
  ext g
  simp only [Finset.mem_union, Finset.mem_map, Finset.mem_univ, true_and]
  constructor
  · rintro (⟨c, rfl⟩ | ⟨p, rfl⟩)
    · exact ⟨(c, none), rfl⟩
    · exact ⟨(p.1, some p.2), rfl⟩
  · rintro ⟨⟨c, _ | s⟩, rfl⟩
    · exact .inl ⟨c, rfl⟩
    · exact .inr ⟨(c, s), rfl⟩

/-- One token per duty: ten on a barrier, one on each transfer cell. -/
def tokKey : D ⊕ Sc → Option Sc × D
  | .inl d => (none, d)
  | .inr s => (some s, .inl 0)
theorem tokKey_inj : Function.Injective tokKey := by
  rintro (a | a) (b | b) h <;> simp_all [tokKey]
def tokEmb : Dev nD × (D ⊕ Sc) ↪ GSem nD τ sig × ℕ × D :=
  ⟨fun p => (cell p.1 (tokKey p.2).1, 0, (tokKey p.2).2), fun a b h => by
    have h1 := cell_inj (congrArg Prod.fst h)
    have h2 : (tokKey a.2).2 = (tokKey b.2).2 := congrArg (fun t => t.2.2) h
    exact Prod.ext h1.1 (tokKey_inj (Prod.ext h1.2 h2))⟩
def tokSet : Finset (GSem nD τ sig × ℕ × D) := Finset.univ.map tokEmb

/-- Across a step and back: the device reached, and the step that leads back. -/
def crossE : Dev nD × D ≃ Dev nD × D where
  toFun p := (peer p.1 p.2, back p.2)
  invFun p := (peer p.1 p.2, back p.2)
  left_inv p := Prod.ext (peer_back p.1 p.2) (back_back p.2)
  right_inv p := Prod.ext (peer_back p.1 p.2) (back_back p.2)
/-- Along a step. -/
def alongE : Dev nD × D ≃ Dev nD × D where
  toFun p := (peer p.1 p.2, p.2)
  invFun p := (peer p.1 (back p.2), p.2)
  left_inv p := Prod.ext (peer_back p.1 p.2) rfl
  right_inv p := Prod.ext (peer_back' p.1 p.2) rfl

theorem deal (E : Dev nD × D ≃ Dev nD × D) (Φ : Dev nD × D → sProp 𝕄) :
    bigSep Finset.univ (fun c => bigSep Finset.univ fun d => Φ (c, d)) = bigSep Finset.univ (fun c => bigSep Finset.univ fun d => Φ (E (c, d))) :=
  (BI.bigSep_univ_prod Φ).symm.trans ((BI.bigSep_univ_equiv E Φ).trans (BI.bigSep_univ_prod _))

/-- Every duty's token, with the device that pays it. -/
theorem deal_toks : bigSep tokSet (fun x => (dutyTok ER x.1 x.2.1 x.2.2 : sProp 𝕄)) ⊢ bigSep Finset.univ fun c : Dev nD => toks c := by
  unfold tokSet toks
  rw [BI.bigSep_map, BI.bigSep_univ_prod]
  have h : ∀ c : Dev nD, bigSep Finset.univ (fun k : D ⊕ Sc => (dutyTok ER (tokEmb (c, k)).1 (tokEmb (c, k)).2.1 (tokEmb (c, k)).2.2 : sProp 𝕄))
      = iprop((bigSep Finset.univ fun d : D => dutyTok ER (barCell c) 0 d)
        ∗ ((bigSep Finset.univ fun d : D => dutyTok ER (sndCell c d) 0 (.inl 0))
        ∗ (bigSep Finset.univ fun d : D => dutyTok ER (rcvCell c d) 0 (.inl 0))
        ∗ dutyTok ER (wgtCell c) 0 (.inl 0))) := fun c => by
    rw [BI.bigSep_univ_sum]
    refine congrArg₂ (fun P Q => iprop(P ∗ Q)) (bigSep_congr fun d _ => rfl) ?_
    exact univ_Sc fun s : Sc => (dutyTok ER (cell c (some s)) 0 (.inl 0) : sProp 𝕄)
  rw [bigSep_congr fun c _ => h c]
  simp only [bigSep_sep']
  rw [deal crossE fun p => dutyTok ER (barCell p.1) 0 p.2, deal alongE fun p => dutyTok ER (rcvCell p.1 p.2) 0 (.inl 0)]
  iintro ⟨H1, H2, H3, H4⟩
  isplitl [H1]; · iexact H1
  isplitl [H3]; · iexact H3
  isplitl [H2] <;> iassumption

/-- The launch element: the windows' own cells; the protocol's. -/
abbrev u₁ : URounds (GSem nD τ sig) D := launchOf barSet scSet tokSet
def u₀ : UU :=
  (initOf (Pipeline.cells (Pipeline.pin (pcfgs (F := F)) adm) cellOf_inj) (Pipeline.launchToks (Pipeline.pin (pcfgs (F := F)) adm) cellOf_inj), u₁)

/-- The protocol's element whole, kept with the first device until the cells are set up. -/
def kept (c : Dev nD) : sProp 𝕄 := if c = 0 then BI.own (ER u₁) else iprop(emp)
theorem kept_all : bigSep Finset.univ (kept (F := F)) = BI.own (ER u₁) := by
  rw [bigSep_univ_at _ (0 : Dev nD), bigSep_congr (s := Finset.univ.erase (0 : Dev nD)) (Ψ := fun _ => (BI.emp : sProp 𝕄))
    fun c hc => by unfold kept; rw [if_neg (Finset.ne_of_mem_erase hc)]; rfl, BI.bigSep_emp_const]
  unfold kept; rw [if_pos rfl]
  exact BI.equiv_iff.mp sep_emp

/-! ## The program as its two parts -/

def bufs : Finset (DevRef τ sig) := (StableHlo.tcRefs τ sig).filter fun b => ¬ b.isScoped

theorem unscoped_bufs (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

abbrev arrs : Finset (DevRef τ sig) := Pipeline.arrRefs (τ := τ) spec0
theorem arrs_sub : (arrs : Finset (DevRef τ sig)) ⊆ bufs := by decide
theorem bufs_rest : (bufs \ arrs : Finset (DevRef τ sig)) = Sr := by decide
theorem bufs_split (c : Dev nD) (W : Valuation τ sig (Elt F)) :
    (StableHlo.held (c : Thread nD τ) bufs W : sProp 𝕄) = iprop(StableHlo.held (c : Thread nD τ) arrs W ∗ StableHlo.held (c : Thread nD τ) Sr W) := by
  rw [StableHlo.held_sub_split (c : Thread nD τ) arrs_sub W, bufs_rest]
theorem bufs_list (c : Dev nD) (W : Valuation τ sig (Elt F)) : (StableHlo.held (c : Thread nD τ) bufs W : sProp 𝕄)
    = iprop((((c : Thread nD τ).loc main_arg0) ↦{fullShare} W main_arg0) ∗ (((c : Thread nD τ).loc main_arg1) ↦{fullShare} W main_arg1)
      ∗ (((c : Thread nD τ).loc main_v1) ↦{fullShare} W main_v1) ∗ (((c : Thread nD τ).loc main_v2) ↦{fullShare} W main_v2)) := by
  unfold StableHlo.held
  rw [bigSep_eq_bigSepL_of_eq [Proc.devRef .tc main_arg0, Proc.devRef .tc main_arg1, Proc.devRef .tc main_v1, Proc.devRef .tc main_v2] (by decide) (by decide)]
  rfl

theorem unscoped_sems (c : Dev nD) : (unscopedSems0 c : sProp 𝕄) = semVal (barCell c) 0 := by
  unfold unscopedSems0
  rw [show (Finset.univ.filter fun sm : SemLoc sig => ¬ sm.isScoped .tc) = {semOf none} from by decide, BI.bigSep_singleton]
theorem unscoped_only : ∀ sm : SemLoc sig, sm.isScoped .tc = false → sm = semOf none := by decide

/-- What rides beside the buffers through the host operation. -/
def rest (c : Dev nD) : sProp 𝕄 := iprop(start m c ∗ (∃ r, prngReg c r) ∗ own c (O₀ c))

theorem ops_sub : ∀ op ∈ (hostOps0 : List (HloOp τ sig (Elt F))), op.bufs ⊆ bufs := fun op h => by
  simp only [hostOps0, List.mem_singleton] at h; subst h
  show ({Proc.devRef .tc main_arg0, Proc.devRef .tc main_v1} : Finset (DevRef τ sig)) ⊆ bufs; decide
theorem ops_fresh : ∀ op ∈ (hostOps0 : List (HloOp τ sig (Elt F))), op.fresh = ∅ := List.forall_iff_forall_mem.mp hostOps0_fresh

def host : Pipeline.HostSeg (Name := ℕ) (U := UU) (pcfgs (F := F)) defs₀ 𝒱₀ L lv :=
  Pipeline.HostSeg.ofOps _ _ _ _ _ bufs hostOps0 ops_sub ops_fresh (W₀ m) (rest m)

def segs : List (Pipeline.Seg (pcfgs (F := F)) adm (pdats m) () defs₀ 𝒱₀ L lv) := [.host (host m), .region (region m)]

theorem main_eq (c : Dev nD) : main (F := F) c = Pipeline.Seg.run (segs m) :=
  main_segs adm (pdats m) () 𝒱₀ L lv (host m) (region m) rfl c

theorem region_pre (c : Dev nD) : iprop(StableHlo.held (c : Thread nD τ) bufs (W₁ m c) ∗ rest m c) ⊢ (region m).pre c := by
  show _ ⊢ iprop(StableHlo.held (c.tc : Thread nD τ) (Pipeline.arrRefs (τ := τ) (pcfgs (F := F) 0).spec) (W₁ m c) ∗ (∃ r, prngReg c r)
    ∗ (StableHlo.held (c.tc : Thread nD τ) Sr (W₁ m c) ∗ emp) ∗ start m c ∗ ∃ Wd, owes (c : Thread nD τ) (0 + O₀ c) Wd)
  rw [zero_add, bufs_split]
  unfold rest own
  iintro ⟨⟨Ha, Hr⟩, Hs, Hp, HO⟩
  isplitl [Ha]; · iexact Ha
  isplitl [Hp]; · iexact Hp
  isplitl [Hr]
  · isplitl [Hr]; · iexact Hr
    iempintro
  isplitl [Hs] <;> iassumption

theorem region_post (c : Dev nD) : (region m).post c
    ⊢ iprop((StableHlo.held (c : Thread nD τ) bufs (W₂ m c) ∗ semVal (barCell c) 0) ∗ ∃ Wd, owes (c : Thread nD τ) (0 : CellTallies nD τ sig Unit) Wd) := by
  show iprop(StableHlo.held (c.tc : Thread nD τ) (Pipeline.arrRefs (τ := τ) (pcfgs (F := F) 0).spec) (W₂ m c) ∗ (∃ r, prngReg c r)
    ∗ (StableHlo.held (c.tc : Thread nD τ) Sr (W₂ m c) ∗ emp) ∗ Yk c ∗ ∃ Wd, owes (c : Thread nD τ) (0 : CellTallies nD τ sig Unit) Wd) ⊢ _
  rw [bufs_split]
  unfold Yk
  iintro ⟨Ha, -, ⟨Hr, -⟩, Hb, HO⟩
  isplitl [Ha Hr Hb]
  · isplitl [Ha Hr]
    · isplitl [Ha] <;> iassumption
    iexact Hb
  iexact HO

/-! ## The launch -/

/-- What the launch gives a device beside the protocol's ghost state. -/
def hand (c : Dev nD) : sProp 𝕄 :=
  iprop(StableHlo.held (c : Thread nD τ) bufs (W₀ m c) ∗ creds c ∗ (∃ r, prngReg c r) ∗ own c (O₀ c))
def ghost (c : Dev nD) : sProp 𝕄 :=
  iprop(atPos ER (barCell c) 0 ∅ 0 ∗ (bigSep Finset.univ fun s : Sc => openTok ER (cell c (some s))) ∗ toks c)
def known (K : GSem nD τ sig → ℕ) : sProp 𝕄 := iprop(invs (Xin m) (Win m) K ∗ bars)
instance known_persistent (K : GSem nD τ sig → ℕ) : BI.Persistent (known m K) := by unfold known; infer_instance

abbrev T₀ (c : Dev nD) : sProp 𝕄 := iprop(StableHlo.held (c : Thread nD τ) bufs (W₀ m c) ∗ rest m c)
abbrev Tₙ (c : Dev nD) : sProp 𝕄 := iprop(StableHlo.held (c : Thread nD τ) bufs (W₂ m c) ∗ semVal (barCell c) 0)

theorem T₀_intro (K : GSem nD τ sig → ℕ) (c : Dev nD) : iprop(known m K ∗ (ghost c ∗ hand m c)) ⊢ T₀ m c := by
  unfold known ghost hand T₀ rest start
  iintro ⟨⟨#HI, #HB⟩, ⟨Hb, Ho, Ht⟩, Hh, Hc, Hp, HO⟩
  isplitl [Hh]; · iexact Hh
  isplitl [Hb Ho Ht Hc]
  · isplitl [Hb Ho Ht]
    · iexists K
      isplitr; · iexact HI
      isplitr; · iexact HB
      isplitl [Hb]; · iexact Hb
      isplitl [Ho] <;> iassumption
    iexact Hc
  isplitl [Hp] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ kept c)
      ⊢ (iprop(hand m c ∗ (semVal (barCell c) 0 ∗ kept c)) : sProp 𝕄) := by
    rw [show unscopedBufs c (fun b => m ((c : Thread nD τ).loc b)) = StableHlo.held (c : Thread nD τ) bufs (W₀ m c) from unscoped_bufs c (W₀ m c),
      unscoped_sems]
    unfold hand own
    iintro ⟨Hh, Hus, HO, Hcr, Hp, HG⟩
    ihave Hc := (credits (F := F) c) $$ Hcr
    isplitl [Hh Hc HO Hp]
    · isplitl [Hh]; · iexact Hh
      isplitl [Hc]; · iexact Hc
      isplitl [Hp]; · iexists (ρ c); iexact Hp
      iexists ∅; iexact HO
    isplitl [Hus] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept c))
      ⊢ (iprop(bigSep Finset.univ (hand m) ∗ (bigSep Finset.univ (fun c : Dev nD => semVal (barCell c) 0) ∗ bigSep Finset.univ kept)) : sProp 𝕄) := by
    refine BIBase.Entails.trans (bigSep_mono fun c _ => hcore c) (Entails.of_eq ?_)
    rw [bigSep_sep', bigSep_sep']
  have hv : bigSep Finset.univ (fun c : Dev nD => (semVal (barCell c) 0 : sProp 𝕄)) ⊢ bigSep barSet (fun g => (semVal g 0 : sProp 𝕄)) :=
    Entails.of_eq (BI.bigSep_map (s := Finset.univ) barEmb (Φ := fun g : GSem nD τ sig => (semVal g 0 : sProp 𝕄))).symm
  have hat : bigSep barSet (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hre : bigSep barSet (fun g => (reached ER g 0 : sProp 𝕄)) ⊢ (bars : sProp 𝕄) :=
    Entails.of_eq (BI.bigSep_map (s := Finset.univ) barEmb (Φ := fun g : GSem nD τ sig => (reached ER g 0 : sProp 𝕄)))
  have hop : bigSep scSet (fun g => (openTok ER g : sProp 𝕄))
      ⊢ bigSep Finset.univ (fun c : Dev nD => bigSep Finset.univ fun s : Sc => openTok ER (cell c (some s))) :=
    Entails.of_eq (by rw [BI.bigSep_map, BI.bigSep_univ_prod]; rfl)
  have hin (K : GSem nD τ sig → ℕ) : bigSep (barSet ∪ scSet) (fun g => (cellInv ER (Rd (Xin m) (Win m)) (K g) g : sProp 𝕄)) ⊢ invs (Xin m) (Win m) K :=
    Entails.of_eq (by rw [cells_all, BI.bigSep_map]; rfl)
  iintro ⟨H, -⟩
  ihave H1 := hall $$ H
  icases H1 with ⟨HB, Hv, HG⟩
  ihave Hu := (Entails.of_eq (kept_all (F := F))) $$ HG
  imod (Rounds.fund_launch ER (Rd (Xin m) (Win m)) cells_disjoint (fun g _ h => h) tokSet) $$ [Hv Hu] with ⟨%K, -, #Hinv, #Hr, Hat, Hopen, Htok⟩
  · isplitl [Hv]
    · iapply hv $$ Hv
    · iexact Hu
  imodintro
  iapply (bigSep_with_persistent (R := known m K) (Φ := fun c => iprop(ghost c ∗ hand m c)) fun c _ => T₀_intro m K c)
  isplitr
  · unfold known
    isplitr; · iapply (hin K); iexact Hinv
    iapply hre; iexact Hr
  iapply (Entails.of_eq (bigSep_sep' Finset.univ (ghost (F := F)) (hand m)).symm)
  isplitr [HB]
  · unfold ghost
    iapply (Entails.of_eq (bigSep_sep' Finset.univ (fun c : Dev nD => (atPos ER (barCell c) 0 ∅ 0 : sProp 𝕄)) _).symm)
    isplitl [Hat]; · iapply hat $$ Hat
    iapply (Entails.of_eq (bigSep_sep' Finset.univ (fun c : Dev nD => bigSep Finset.univ fun s : Sc => (openTok ER (cell c (some s)) : sProp 𝕄)) _).symm)
    isplitl [Hopen]; · iapply hop $$ Hopen
    iapply (deal_toks (F := F)) $$ Htok
  · iexact HB

/-! ## The run -/

set_option backward.isDefEq.respectTransparency.types false in
/-- From any memory with zero counters every weakly fair execution of the program terminates; both arguments are as they
    were, the result is `res` of the blocks and the weights, and every counter is zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v2) = res (Xin m) (Win m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := kept) (u₀ := u₀ (F := F))
    (hu₀ := by
      unfold u₀
      iintro Hu
      ihave H := (ownU_pair _ _) $$ Hu
      icases H with ⟨HP, HX⟩
      imodintro
      isplitl [HP]; · iexact HP
      rw [kept_all]; iexact HX)
    (T₀ := T₀ m) (Tₙ := Tₙ m)
    (hch := ⟨fun c => .rfl, fun c => region_pre m c, fun c => region_post m c⟩)
    (hinit := init m ρ)
    (QY := fun c s => (s.mem ((c : Thread nD τ).loc main_arg0) = W₂ m c main_arg0 ∧ s.mem ((c : Thread nD τ).loc main_arg1) = W₂ m c main_arg1
        ∧ s.mem ((c : Thread nD τ).loc main_v2) = W₂ m c main_v2) ∧ s.sem (barCell c) = 0)
    (hfin := fun c s' => by
      dsimp only [Tₙ]; rw [bufs_list]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [W₂_arg0] at h0; rw [W₂_arg1] at h1; rw [W₂_v2] at h2
        exact ⟨h0.trans (V_main_arg0 m c), h1.trans (V_main_arg1 m c), h2⟩,
      sem_eq_zero hs fun c sm hsm => by
        obtain rfl := unscoped_only sm hsm
        exact (h c).2⟩)

end Cert.Gather

end
-- ==== Proof.Value.lean ====
/-
What the kernel computes over the extended reals: each device's result is its block of rows of the product of the two
whole arrays, every entry times the logistic function of itself.
-/
module

public import proofs.«01_k».proof.Proof.Launch
public import Idealize.ShloMosaic.Lib.Layout
public import Idealize.ShloMosaic.Lib.MatmulPlain
public import Idealize.ShloMosaic.Lib.IdealHost
public import Idealize.ShloMosaic.Lib.Pipeline.Value

@[expose] public section

noncomputable section

namespace Cert.Gather

open Cert.KernelIdeal Cert.KernelIdeal.Gen
open Idealize.ShloMosaic Idealize.ShloMosaic.TcCoe Idealize.ShloMosaic.ValueIdx
open scoped BigOperators

/-- A square array of 1024 rows. -/
abbrev Sq : Shape := ⟨2, ![1024, 1024]⟩
/-- Row `r` of block `c` of the rows, as a row of the whole. -/
def rowAt (c : Dev nD) (r : Fin 32) : Fin 1024 := ⟨32 * c.val + r.val, by have := c.isLt; simp only [nD] at this; omega⟩

section Gathered

variable {F : FTy → Type} [FloatOps F]
variable (m : (ℓ : Loc nD τ sig) → Buf (Elt F) ℓ)

/-- The reshaped block at an index: row `256 a + 32 b + i` of the block. -/
theorem Xin_apply (c : Dev nD) (i : S4x8x32x32.Idx) (r : Fin 1024) (hr : r.val = 256 * (i 0).val + 32 * (i 1).val + (i 2).val) :
    Xin m c i = (m ((c : Thread nD τ).loc main_arg0) : (⟨2, ![1024, 32]⟩ : Shape).Idx → Elt F .f32) (ix2 r (i 3)) := by
  have e : Xin m c = shapeCast S4x8x32x32 (m ((c : Thread nD τ).loc main_arg0) : S1024x32.Idx → Elt F .f32) shapeCasts_S1024x32_S4x8x32x32 := by
    unfold Xin V
    rw [show (hostOps0 : List (HloOp τ sig (Elt F))) = [StableHlo.reshape main_arg0 main_v1 rfl shapeCasts_S1024x32_S4x8x32x32] from rfl]
    after_results
    try rfl
  rw [e]
  refine shapeCast_apply (s := S1024x32) _ _ i (ix2 r (i 3)) ?_
  rw [Shape.rowMajor_val_two, Shape.rowMajor_val_four]
  show r.val * 32 + (i 3).val = ((((i 0).val * 8 + (i 1).val) * 32 + (i 2).val) * 32 + (i 3).val)
  rw [hr]; omega

variable (x : Sq.Idx → Elt F .f32)

/-- What device `c` has gathered: row `32 c + i`, and the columns block by block. -/
theorem G_apply (hx : ∀ c : Dev nD, m ((c : Thread nD τ).loc main_arg0) = Layout.block ⟨2, ![1024, 32]⟩ Sq 1 32 c x)
    (c : Dev nD) (i : S4x8x32x32.Idx) (r k : Fin 1024) (hr : r.val = 32 * c.val + (i 2).val)
    (hk : k.val = 256 * (i 0).val + 32 * (i 1).val + (i 3).val) : G (Xin m) c i = x (ix2 r k) := by
  have h0 : (i 0).val < 4 := (i 0).isLt
  have h1 : (i 1).val < 8 := (i 1).isLt
  have hc : c.val < 32 := c.isLt
  show Xin m (dev (c1 (dev (i 0) (c2 c))) (i 1)) (setCol (setRow i (c1 c)) (c2 (dev (i 0) (c2 c)))) = _
  refine (Xin_apply m _ _ r ?_).trans ?_
  · show r.val = 256 * (c.val / 8) + 32 * ((8 * (i 0).val + c.val % 8) % 8) + (i 2).val
    omega
  · rw [hx]
    refine congrArg x (funext fun a => Fin.ext ?_)
    match a with
    | ⟨0, _⟩ => rfl
    | ⟨1, _⟩ =>
      show (8 * ((8 * (i 0).val + c.val % 8) / 8) + (i 1).val) * 32 + (i 3).val = k.val
      omega

/-- The gathered blocks laid out as 32 whole rows. -/
theorem rows_apply (hx : ∀ c : Dev nD, m ((c : Thread nD τ).loc main_arg0) = Layout.block ⟨2, ![1024, 32]⟩ Sq 1 32 c x)
    (c : Dev nD) (r : Fin 32) (k : Fin 1024) :
    shapeCast S32x1024 (transpose S32x4x8x32 [2, 0, 1, 3] (G (Xin m) c) transposes_S4x8x32x32_p2_0_1_3_S32x4x8x32)
      shapeCasts_S32x4x8x32_S32x1024 (ix2 r k) = x (ix2 (rowAt c r) k) := by
  have hk : k.val < 1024 := k.isLt
  have e1 := shapeCast_apply (transpose S32x4x8x32 [2, 0, 1, 3] (G (Xin m) c) transposes_S4x8x32x32_p2_0_1_3_S32x4x8x32)
    shapeCasts_S32x4x8x32_S32x1024 (ix2 r k)
    (ix4 r (⟨k.val / 256, by omega⟩ : Fin 4) (⟨k.val / 32 % 8, by omega⟩ : Fin 8) (⟨k.val % 32, by omega⟩ : Fin 32)) (by
      rw [Shape.rowMajor_val_two, Shape.rowMajor_val_four]
      show ((r.val * 4 + k.val / 256) * 8 + k.val / 32 % 8) * 32 + k.val % 32 = r.val * 1024 + k.val
      omega)
  have e2 := transpose_apply [2, 0, 1, 3] (G (Xin m) c) transposes_S4x8x32x32_p2_0_1_3_S32x4x8x32
    (ix4 r (⟨k.val / 256, by omega⟩ : Fin 4) (⟨k.val / 32 % 8, by omega⟩ : Fin 8) (⟨k.val % 32, by omega⟩ : Fin 32))
    (ix4 (⟨k.val / 256, by omega⟩ : Fin 4) (⟨k.val / 32 % 8, by omega⟩ : Fin 8) r (⟨k.val % 32, by omega⟩ : Fin 32)) (by
      intro b
      match b with
      | ⟨0, _⟩ => rfl
      | ⟨1, _⟩ => rfl
      | ⟨2, _⟩ => rfl
      | ⟨3, _⟩ => rfl)
  refine e1.trans (e2.trans (G_apply m x hx c _ _ _ rfl ?_))
  show k.val = 256 * (k.val / 256) + 32 * (k.val / 32 % 8) + k.val % 32
  omega

end Gathered

/-! ## Over the extended reals -/

/-- An entry of the product of two square arrays. -/
def prodAt (x w : Sq.Idx → EReal) (r j : Fin 1024) : EReal := ∑ k : Fin 1024, x (ix2 r k) * w (ix2 k j)
/-- The value at which the kernel's activation and the reference's meet. -/
def silu (v : EReal) : EReal := Ideal.div v (1 + Ideal.exp (-v))

theorem exp_nonneg (v : EReal) : 0 ≤ Ideal.exp v := by
  induction v using EReal.rec with
  | bot => rw [Ideal.exp_bot]
  | top => rw [Ideal.exp_top]; exact le_top
  | coe r => rw [Ideal.exp_coe]; exact EReal.coe_nonneg.2 (Real.exp_pos r).le

theorem one_add_exp_ne (v : EReal) : 1 + Ideal.exp v ≠ 0 := by
  have h1 : (1 : EReal) ≤ 1 + Ideal.exp v := le_add_of_nonneg_right (exp_nonneg v)
  intro e; rw [e] at h1; exact absurd h1 (by simp)

theorem mul_logistic (v : EReal) : v * Ideal.logistic v = silu v := Ideal.mul_one_div (one_add_exp_ne (-v))

/-- Device `c`'s result at an index. -/
theorem res_apply (m : (ℓ : Loc nD τ sig) → Buf (Elt Ideal) ℓ) (x w : Sq.Idx → EReal)
    (hx : ∀ c : Dev nD, m ((c : Thread nD τ).loc main_arg0) = Layout.block ⟨2, ![1024, 32]⟩ Sq 1 32 c x)
    (hw : ∀ c : Dev nD, m ((c : Thread nD τ).loc main_arg1) = w) (c : Dev nD) (r : Fin 32) (j : Fin 1024) :
    (res (Xin m) (Win m) c : S32x1024.Idx → EReal) (ix2 r j) = silu (prodAt x w (rowAt c r) j) := by
  rw [← mul_logistic]
  have e : (k0_pay4 (G (Xin m) c) (Win m c) : S32x1024.Idx → EReal) (ix2 r j) = prodAt x w (rowAt c r) j := by
    refine (Ideal.matmul_plain_apply none _ _ _ r j).trans ?_
    rw [show constant (F := Ideal) S32x1024 .f32 0x00000000#32 (ix2 r j) = (0 : EReal) from Ideal.ofBits_zero_f32, zero_add]
    refine Finset.sum_congr rfl fun k _ => ?_
    exact congrArg₂ (· * ·) (rows_apply m x hx c r k) (congrFun (hw c) (ix2 k j))
  show (k0_pay4 (G (Xin m) c) (Win m c) : S32x1024.Idx → EReal) (ix2 r j) * Ideal.logistic ((k0_pay4 (G (Xin m) c) (Win m c) : S32x1024.Idx → EReal) (ix2 r j)) = _
  rw [e]

end Cert.Gather

end
-- ==== Proof.Reference.lean ====
/-
What the two references compute over the extended reals, at an index: the product's entry times the logistic function
of itself, for the reference with the clip wherever the entry lies within the clip.
-/
module

public import proofs.«01_k».proof.Proof.Value
public import proofs.«01_k».proof.Proof.Gen.ReferenceIdeal.Run
public import proofs.«01_k».proof.Proof.Gen.SiluIdeal.Run
public import proofs.«01_k».proof.Proof.Gen.On_within_clip
public import Idealize.ShloMosaic.Lib.StackMember
public import Idealize.ShloMosaic.Lib.Quiescent

@[expose] public section

noncomputable section

namespace Cert.Gather

open Idealize.ShloMosaic Idealize.ShloMosaic.TcCoe Idealize.ShloMosaic.ValueIdx Idealize.SL.Sem
open scoped BigOperators

/-- The whole result, entry by entry. -/
def whole (x w : Sq.Idx → EReal) : Sq.Idx → EReal := fun i => silu (prodAt x w (i 0) (i 1))

/-! ## The product and the constants -/

theorem dot_ref (x w : Sq.Idx → EReal) (i : Sq.Idx) :
    Host.dotGeneral (F := Ideal) (φ₁ := .f32) (φ₂ := .f32) Cert.ReferenceIdeal.dot_S1024x1024_S1024x1024_S1024x1024_1_0_0_1_n_n none x w i
      = prodAt x w (i 0) (i 1) := by
  conv_lhs => rw [eq_ix2 i]
  exact Idealize.ShloMosaic.StackMember.dotGeneral_plain_apply none x w (i 0) (i 1)

theorem sixty : Ideal.ofBits .f32 0x42700000#32 = ((60 : ℝ) : EReal) := by
  simp [Ideal.ofBits, Ideal.ieee, -EReal.coe_mul]; norm_num
theorem neg_sixty : Ideal.ofBits .f32 0xC2700000#32 = ((-60 : ℝ) : EReal) := by
  simp [Ideal.ofBits, Ideal.ieee, -EReal.coe_mul, -EReal.coe_neg]; norm_num

/-- Within the clip, the clip changes nothing. -/
theorem clip_id (v : EReal) (h : max v (-v) ≤ ((60 : ℝ) : EReal)) : min ((60 : ℝ) : EReal) (max ((-60 : ℝ) : EReal) v) = v := by
  have h1 : v ≤ ((60 : ℝ) : EReal) := (le_max_left _ _).trans h
  have h2 : ((-60 : ℝ) : EReal) ≤ v := by
    rw [EReal.coe_neg]; exact EReal.neg_le_of_neg_le ((le_max_right _ _).trans h)
  rw [max_eq_right h2, min_eq_right h1]

/-- The mask at an index. -/
theorem mask_apply (x w : Sq.Idx → EReal) (i : Sq.Idx) (h : Cert.On_within_clip.fn (F := Ideal) x w i = 1#1) :
    max (prodAt x w (i 0) (i 1)) (-prodAt x w (i 0) (i 1)) ≤ ((60 : ℝ) : EReal) := by
  have e : Cert.On_within_clip.fn (F := Ideal) x w i
      = Ideal.cmp .ole (max (Host.dotGeneral (F := Ideal) (φ₁ := .f32) (φ₂ := .f32) Cert.ReferenceIdeal.dot_S1024x1024_S1024x1024_S1024x1024_1_0_0_1_n_n none x w i)
          (-Host.dotGeneral (F := Ideal) (φ₁ := .f32) (φ₂ := .f32) Cert.ReferenceIdeal.dot_S1024x1024_S1024x1024_S1024x1024_1_0_0_1_n_n none x w i))
          (Ideal.ofBits .f32 0x42700000#32) := rfl
  rw [e, dot_ref, sixty] at h
  by_contra hn
  rw [show Ideal.cmp .ole (max (prodAt x w (i 0) (i 1)) (-prodAt x w (i 0) (i 1))) ((60 : ℝ) : EReal)
    = BitVec.ofBool (decide (max (prodAt x w (i 0) (i 1)) (-prodAt x w (i 0) (i 1)) ≤ ((60 : ℝ) : EReal))) from rfl, decide_eq_false hn] at h
  exact absurd h (by decide)

/-! ## The runs -/

section Silu
open Cert.SiluIdeal Cert.SiluIdeal.Gen

theorem run_silu (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      (r.2.mem ((c.tc : Thread nD τ).loc main_v5) : Sq.Idx → EReal)
          = whole (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  refine (θ_run defs _ _).mono (fun r h => ⟨fun c => ⟨(h c).1.trans (funext fun i => ?_), (h c).2⟩, sem_eq_zero_of_no_sems (by decide) _⟩) (Value.run m ρ)
  have e := dot_ref (m ((c.tc : Thread nD τ).loc main_arg0)) (m ((c.tc : Thread nD τ).loc main_arg1)) i
  refine Eq.trans (b := Ideal.div _ (Ideal.ofBits .f32 0x3F800000#32 + Ideal.exp (-_))) rfl ?_
  rw [Ideal.ofBits_one_f32]
  exact (congrArg silu e)

end Silu

section Clipped
open Cert.ReferenceIdeal Cert.ReferenceIdeal.Gen

theorem run_clipped (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      (∀ i : Sq.Idx, Cert.On_within_clip.fn (F := Ideal) (m ((c.tc : Thread nD τ).loc main_arg0)) (m ((c.tc : Thread nD τ).loc main_arg1)) i = 1#1 →
        (r.2.mem ((c.tc : Thread nD τ).loc main_v6) : Sq.Idx → EReal) i
          = whole (m ((c.tc : Thread nD τ).loc main_arg0)) (m ((c.tc : Thread nD τ).loc main_arg1)) i)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  refine (θ_run defs _ _).mono (fun r h => ⟨fun c => ⟨fun i hi => (congrFun (h c).1 i).trans ?_, (h c).2⟩, sem_eq_zero_of_no_sems (by decide) _⟩) (Value.run m ρ)
  have e := dot_ref (m ((c.tc : Thread nD τ).loc main_arg0)) (m ((c.tc : Thread nD τ).loc main_arg1)) i
  have hm := mask_apply _ _ i hi
  rw [← e] at hm
  have hc := clip_id _ hm
  refine Eq.trans (b := Ideal.div _ (Ideal.ofBits .f32 0x3F800000#32
    + Ideal.exp (-min (Ideal.ofBits .f32 0x42700000#32) (max (Ideal.ofBits .f32 0xC2700000#32) _)))) rfl ?_
  rw [Ideal.ofBits_one_f32, sixty, neg_sixty]
  exact (congrArg (fun v => Ideal.div _ (1 + Ideal.exp (-v))) hc).trans (congrArg silu e)

end Clipped

end Cert.Gather

end
-- ==== Proof.lean ====
/-
The certificate: the kernel and its idealization run and end quiescent with their arguments unchanged, so do the two
references, and over the extended reals every device's result is its block of the references' results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.On_within_clip
public import proofs.«01_k».proof.Proof.Reference
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem Cert.Gather

/-- The two programs have one text: so one table of kernel bodies, -/
theorem defs₀_eq : Cert.Kernel.defs₀ (F := Bits) = Cert.KernelIdeal.defs₀ (F := Bits) := by
  refine congrArg (Defs.onTc (Λ := Cert.KernelIdeal.Λ₀)) (funext fun l => funext fun x => ?_)
  match l, x with
  | 0, (t, s) => rfl
  | ⟨_ + 1, h⟩, _ => exact absurd h (Nat.not_lt.2 (Nat.le_add_left _ _))

/-- and one table of all bodies. -/
theorem defs_eq : Cert.Kernel.defs (F := Bits) = Cert.KernelIdeal.defs (F := Bits) :=
  congrArg (Idealize.ShloMosaic.Pipeline.defs (Cert.KernelIdeal.pcfgs (F := Bits))) defs₀_eq

theorem frame_kernel : Cert.quiescent_Kernel := fun m ρ _ => by
  rw [defs_eq]
  exact (θ_run Cert.KernelIdeal.defs _ _).mono (fun _ h => ⟨fun c => ⟨(h.1 c).1, (h.1 c).2.1⟩, h.2⟩) (run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_reference : Cert.quiescent_ReferenceIdeal := fun m ρ _ =>
  (θ_run Cert.ReferenceIdeal.defs _ _).mono (fun _ h => ⟨fun c => (h.1 c).2, h.2⟩) (run_clipped m ρ)

theorem frame_silu : Cert.quiescent_SiluIdeal := fun m ρ _ =>
  (θ_run Cert.SiluIdeal.defs _ _).mono (fun _ h => ⟨fun c => (h.1 c).2, h.2⟩) (run_silu m ρ)

/-- Every device's result is its block of rows of the whole. -/
theorem res_block (m : (ℓ : Loc Cert.KernelIdeal.nD Cert.KernelIdeal.τ Cert.KernelIdeal.sig) → Buf (Elt Ideal) ℓ) (x w : Sq.Idx → EReal)
    (hx : ∀ c : Dev Cert.KernelIdeal.nD, m ((c.tc : Thread Cert.KernelIdeal.nD Cert.KernelIdeal.τ).loc Cert.KernelIdeal.main_arg0) = Layout.block ⟨2, ![1024, 32]⟩ ⟨2, ![1024, 1024]⟩ 1 32 c x)
    (hw : ∀ c : Dev Cert.KernelIdeal.nD, m ((c.tc : Thread Cert.KernelIdeal.nD Cert.KernelIdeal.τ).loc Cert.KernelIdeal.main_arg1) = w) (c : Dev Cert.KernelIdeal.nD) :
    (res (Xin m) (Win m) c : (⟨2, ![32, 1024]⟩ : Shape).Idx → EReal) = Layout.block ⟨2, ![32, 1024]⟩ ⟨2, ![1024, 1024]⟩ 0 32 c (whole x w) := by
  funext i
  obtain ⟨r, j, rfl⟩ : ∃ (r : Fin 32) (j : Fin 1024), i = ix2 r j := ⟨i 0, i 1, eq_ix2 i⟩
  refine (res_apply m x w hx hw c r j).trans ?_
  have e : rowAt c r = ((by decide : Layout.Tiles ⟨2, ![32, 1024]⟩ ⟨2, ![1024, 1024]⟩ 0 32).idx c (ix2 r j) 0 : Fin 1024) :=
    Fin.ext (by show 32 * c.val + r.val = c.val * 32 + r.val; omega)
  exact congrArg (fun q => silu (prodAt x w q j)) e

theorem value_silu : Cert.algebraic_KernelIdeal_SiluIdeal := fun m g m' g' _ h =>
  ⟨whole (m' (((0 : Dev Cert.SiluIdeal.nD).tc : Thread Cert.SiluIdeal.nD Cert.SiluIdeal.τ).loc Cert.SiluIdeal.main_arg0))
      (m' (((0 : Dev Cert.SiluIdeal.nD).tc : Thread Cert.SiluIdeal.nD Cert.SiluIdeal.τ).loc Cert.SiluIdeal.main_arg1)),
    (θ_run Cert.KernelIdeal.defs _ _).mono (fun _ k c => ⟨(k.1 c).2.2.trans (res_block m _ _ (fun c => (h c).1) (fun c => (h c).2) c),
      (k.1 c).1, (k.1 c).2.1⟩) (run_main (F := Ideal) m g),
    (θ_run Cert.SiluIdeal.defs _ _).mono (fun _ k => k.1 0) (run_silu m' g')⟩

theorem value_clipped : Cert.algebraic_KernelIdeal_ReferenceIdeal_on_within_clip := fun m g m' g' _ h =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ k c => ⟨fun i _ =>
        congrFun ((k.1 c).2.2.trans (res_block m _ _ (fun c => (h c).1) (fun c => (h c).2) c)) i,
      (k.1 c).1, (k.1 c).2.1⟩) (run_main (F := Ideal) m g),
    (θ_run Cert.ReferenceIdeal.defs _ _).mono (fun _ k => k.1 0) (run_clipped m' g')⟩

theorem claim : Cert.Claim :=
  ⟨Cert.Kernel.Gen.facts, Cert.KernelIdeal.Gen.facts, Cert.ReferenceIdeal.Gen.facts, Cert.SiluIdeal.Gen.facts, Cert.On_within_clip.Gen.facts,
    frame_kernel, frame_kernelIdeal, frame_reference, frame_silu, trivial, value_clipped, value_silu⟩

end Cert.Proof

end
